-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_gamma_finite [hPre_gamma_finite : Cert.Pre_gamma_finite.Facts] (m : (ℓ : Loc Cert.NormIdeal.nD Cert.NormIdeal.τ Cert.NormIdeal.sig) → Buf (Elt Ideal) ℓ) : Prop :=
  ∀ c : Dev Cert.NormIdeal.nD,
    (Cert.Pre_gamma_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_gamma_finite [hPre_gamma_finite : Cert.Pre_gamma_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_gamma_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradIdeal_dy_finite [hPre_dy_finite : Cert.Pre_dy_finite.Facts] (m : (ℓ : Loc Cert.WgradIdeal.nD Cert.WgradIdeal.τ Cert.WgradIdeal.sig) → Buf (Elt Ideal) ℓ) : Prop :=
  ∀ c : Dev Cert.WgradIdeal.nD,
    (Cert.Pre_dy_finite.fn (F := Ideal) (m ((c.tc : Thread Cert.WgradIdeal.nD Cert.WgradIdeal.τ).loc Cert.WgradIdeal.main_arg0)) (m ((c.tc : Thread Cert.WgradIdeal.nD Cert.WgradIdeal.τ).loc Cert.WgradIdeal.main_arg1)) (m ((c.tc : Thread Cert.WgradIdeal.nD Cert.WgradIdeal.τ).loc Cert.WgradIdeal.main_arg2)) (m ((c.tc : Thread Cert.WgradIdeal.nD Cert.WgradIdeal.τ).loc Cert.WgradIdeal.main_arg3)) (m ((c.tc : Thread Cert.WgradIdeal.nD Cert.WgradIdeal.τ).loc Cert.WgradIdeal.main_arg4))) = (fun _ => 1#1)

def Pre_WgradRefIdeal (m : (ℓ : Loc Cert.WgradRefIdeal.nD Cert.WgradRefIdeal.τ Cert.WgradRefIdeal.sig) → Buf (Elt Ideal) ℓ) : Prop :=
  True

def Pre_WgradRefIdeal_dy_finite [hPre_dy_finite : Cert.Pre_dy_finite.Facts] (m : (ℓ : Loc Cert.WgradRefIdeal.nD Cert.WgradRefIdeal.τ Cert.WgradRefIdeal.sig) → Buf (Elt Ideal) ℓ) : Prop :=
  ∀ c : Dev Cert.WgradRefIdeal.nD,
    (Cert.Pre_dy_finite.fn (F := Ideal) (m ((c.tc : Thread Cert.WgradRefIdeal.nD Cert.WgradRefIdeal.τ).loc Cert.WgradRefIdeal.main_arg0)) (m ((c.tc : Thread Cert.WgradRefIdeal.nD Cert.WgradRefIdeal.τ).loc Cert.WgradRefIdeal.main_arg1)) (m ((c.tc : Thread Cert.WgradRefIdeal.nD Cert.WgradRefIdeal.τ).loc Cert.WgradRefIdeal.main_arg2)) (m ((c.tc : Thread Cert.WgradRefIdeal.nD Cert.WgradRefIdeal.τ).loc Cert.WgradRefIdeal.main_arg3)) (m ((c.tc : Thread Cert.WgradRefIdeal.nD Cert.WgradRefIdeal.τ).loc Cert.WgradRefIdeal.main_arg4))) = (fun _ => 1#1)

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormIdeal_pre_gamma_finite [hNormIdeal : Cert.NormIdeal.Facts] [hPre_gamma_finite : Cert.Pre_gamma_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_gamma_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormRefIdeal_pre_gamma_finite [hNormRefIdeal : Cert.NormRefIdeal.Facts] [hPre_gamma_finite : Cert.Pre_gamma_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_gamma_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradIdeal_pre_dy_finite [hWgradIdeal : Cert.WgradIdeal.Facts] [hPre_dy_finite : Cert.Pre_dy_finite.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal_dy_finite m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4))
      ∧ r.2.sem = fun _ => 0)

def quiescent_WgradRefIdeal_pre_dy_finite [hWgradRefIdeal : Cert.WgradRefIdeal.Facts] [hPre_dy_finite : Cert.Pre_dy_finite.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal_dy_finite m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1))
      ∧ r.2.sem = fun _ => 0)

def preserves_Norm_NormIdeal : Prop :=
  IdealRules.named_const.Statement Cert.NormIdeal.κ "inv_d_model" .f32 0x39924925#32 ((1 / 3584 : ℝ) : EReal)

def algebraic_NormIdeal_NormRefIdeal_pre_gamma_finite [hNormIdeal : Cert.NormIdeal.Facts] [hNormRefIdeal : Cert.NormRefIdeal.Facts] [hPre_gamma_finite : Cert.Pre_gamma_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_gamma_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Wgrad_WgradIdeal : Prop :=
  IdealRules.named_const.Statement Cert.WgradIdeal.κ "inv_d_model" .f32 0x39924925#32 ((1 / 3584 : ℝ) : EReal)

def algebraic_WgradIdeal_WgradRefIdeal_pre_dy_finite [hWgradIdeal : Cert.WgradIdeal.Facts] [hWgradRefIdeal : Cert.WgradRefIdeal.Facts] [hPre_dy_finite : Cert.Pre_dy_finite.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal_dy_finite m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)) (v2 : (c : Dev Cert.WgradIdeal.nD) → Buf (Elt Ideal) ((c.tc : Thread Cert.WgradIdeal.nD Cert.WgradIdeal.τ).loc Cert.WgradIdeal.main_v0_2)) (v3 : (c : Dev Cert.WgradIdeal.nD) → Buf (Elt Ideal) ((c.tc : Thread Cert.WgradIdeal.nD Cert.WgradIdeal.τ).loc Cert.WgradIdeal.main_v0_3)) (v4 : (c : Dev Cert.WgradIdeal.nD) → Buf (Elt Ideal) ((c.tc : Thread Cert.WgradIdeal.nD Cert.WgradIdeal.τ).loc Cert.WgradIdeal.main_v0_4)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_v0_2) = v2 c
          ∧ r.2.mem ((c.tc : Thread Cert.WgradIdeal.nD Cert.WgradIdeal.τ).loc Cert.WgradIdeal.main_v0_3) = v3 c
          ∧ r.2.mem ((c.tc : Thread Cert.WgradIdeal.nD Cert.WgradIdeal.τ).loc Cert.WgradIdeal.main_v0_4) = v4 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0_0) = v0 c
          ∧ r.2.mem ((c.tc : Thread Cert.WgradRefIdeal.nD Cert.WgradRefIdeal.τ).loc Cert.WgradRefIdeal.main_v0_1) = v1 c
          ∧ r.2.mem ((c.tc : Thread Cert.WgradRefIdeal.nD Cert.WgradRefIdeal.τ).loc Cert.WgradRefIdeal.main_v0_2) = v2 c
          ∧ r.2.mem ((c.tc : Thread Cert.WgradRefIdeal.nD Cert.WgradRefIdeal.τ).loc Cert.WgradRefIdeal.main_v0_3) = v3 c
          ∧ r.2.mem ((c.tc : Thread Cert.WgradRefIdeal.nD Cert.WgradRefIdeal.τ).loc Cert.WgradRefIdeal.main_v0_4) = v4 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4))

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)) →
    ∃ (v0 : (c : Dev Cert.DgradIdeal.nD) → Buf (Elt Ideal) ((c.tc : Thread Cert.DgradIdeal.nD Cert.DgradIdeal.τ).loc Cert.DgradIdeal.main_v0)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v0) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1))

def Claim : Prop :=
  ∃ (hNorm : Cert.Norm.Facts) (hNormIdeal : Cert.NormIdeal.Facts) (hNormRefIdeal : Cert.NormRefIdeal.Facts) (hWgrad : Cert.Wgrad.Facts) (hWgradIdeal : Cert.WgradIdeal.Facts) (hWgradRefIdeal : Cert.WgradRefIdeal.Facts) (hDgrad : Cert.Dgrad.Facts) (hDgradIdeal : Cert.DgradIdeal.Facts) (hDgradRefIdeal : Cert.DgradRefIdeal.Facts) (hPre_gamma_finite : Cert.Pre_gamma_finite.Facts) (hPre_dy_finite : Cert.Pre_dy_finite.Facts),
    quiescent_Norm (hNorm := hNorm)
    ∧ quiescent_NormIdeal (hNormIdeal := hNormIdeal)
    ∧ quiescent_NormIdeal_pre_gamma_finite (hNormIdeal := hNormIdeal) (hPre_gamma_finite := hPre_gamma_finite)
    ∧ quiescent_NormRefIdeal (hNormRefIdeal := hNormRefIdeal)
    ∧ quiescent_NormRefIdeal_pre_gamma_finite (hNormRefIdeal := hNormRefIdeal) (hPre_gamma_finite := hPre_gamma_finite)
    ∧ quiescent_Wgrad (hWgrad := hWgrad)
    ∧ quiescent_WgradIdeal (hWgradIdeal := hWgradIdeal)
    ∧ quiescent_WgradIdeal_pre_dy_finite (hWgradIdeal := hWgradIdeal) (hPre_dy_finite := hPre_dy_finite)
    ∧ quiescent_WgradRefIdeal (hWgradRefIdeal := hWgradRefIdeal)
    ∧ quiescent_WgradRefIdeal_pre_dy_finite (hWgradRefIdeal := hWgradRefIdeal) (hPre_dy_finite := hPre_dy_finite)
    ∧ quiescent_Dgrad (hDgrad := hDgrad)
    ∧ quiescent_DgradIdeal (hDgradIdeal := hDgradIdeal)
    ∧ quiescent_DgradRefIdeal (hDgradRefIdeal := hDgradRefIdeal)
    ∧ preserves_Norm_NormIdeal
    ∧ algebraic_NormIdeal_NormRefIdeal_pre_gamma_finite (hNormIdeal := hNormIdeal) (hNormRefIdeal := hNormRefIdeal) (hPre_gamma_finite := hPre_gamma_finite)
    ∧ preserves_Wgrad_WgradIdeal
    ∧ algebraic_WgradIdeal_WgradRefIdeal_pre_dy_finite (hWgradIdeal := hWgradIdeal) (hWgradRefIdeal := hWgradRefIdeal) (hPre_dy_finite := hPre_dy_finite)
    ∧ preserves_Dgrad_DgradIdeal
    ∧ algebraic_DgradIdeal_DgradRefIdeal (hDgradIdeal := hDgradIdeal) (hDgradRefIdeal := hDgradRefIdeal)
-- ==== Pre_dy_finite.lean ====
abbrev S1920x18944 : Shape := ⟨2, ![1920, 18944]⟩
abbrev S3584x1920 : Shape := ⟨2, ![3584, 1920]⟩
abbrev S1920x3584 : Shape := ⟨2, ![1920, 3584]⟩
abbrev S1x3584 : Shape := ⟨2, ![1, 3584]⟩
abbrev S_ : Shape := ⟨0, ![]⟩

class Facts : Prop where
  bitsLt_bf16_f32 : FTy.bits .bf16 < FTy.bits .f32
  bcast_S_S1920x18944 : S_.BroadcastsInDim S1920x18944 (![] : Fin 0 → Fin S1920x18944.rank)

variable [Facts]

def fn {F : FTy → Type} [FloatOps F] (main_arg0 : FVec F S1920x18944 .bf16) (main_arg1 : FVec F S3584x1920 .bf16) (main_arg2 : FVec F S1920x3584 .f32) (main_arg3 : FVec F S1920x3584 .bf16) (main_arg4 : FVec F S1x3584 .f32) : IVec S1920x18944 1 :=
  let main_v0 : FVec F S1920x18944 .f32 := (extf .f32 · bitsLt_bf16_f32) main_arg0
  let main_v1 : FVec F S1920x18944 .f32 := Host.absf main_v0
  let main_cst : FVec F S_ .f32 := constant S_ .f32 0x7F7F0000#32
  let main_v2 : FVec F S1920x18944 .f32 := broadcastInDim S1920x18944 ![] bcast_S_S1920x18944 main_cst
  let main_v3 : IVec S1920x18944 1 := cmpf .ole main_v1 main_v2
  main_v3
-- ==== Pre_gamma_finite.lean ====
abbrev S1920x3584 : Shape := ⟨2, ![1920, 3584]⟩
abbrev S1x3584 : Shape := ⟨2, ![1, 3584]⟩
abbrev S_ : Shape := ⟨0, ![]⟩

class Facts : Prop where
  bcast_S_S1x3584 : S_.BroadcastsInDim S1x3584 (![] : Fin 0 → Fin S1x3584.rank)

variable [Facts]

def fn {F : FTy → Type} [FloatOps F] (main_arg0 : FVec F S1920x3584 .bf16) (main_arg1 : FVec F S1x3584 .f32) : IVec S1x3584 1 :=
  let main_v0 : FVec F S1x3584 .f32 := Host.absf main_arg1
  let main_cst : FVec F S_ .f32 := constant S_ .f32 0x7F7FFFFF#32
  let main_v1 : FVec F S1x3584 .f32 := broadcastInDim S1x3584 ![] bcast_S_S1x3584 main_cst
  let main_v2 : IVec S1x3584 1 := cmpf .ole main_v0 main_v1
  main_v2
-- ==== Norm.lean ====
abbrev S1920x3584 : Shape := ⟨2, ![1920, 3584]⟩
abbrev S1x3584 : Shape := ⟨2, ![1, 3584]⟩
abbrev S15x4x3584 : Shape := ⟨3, ![15, 4, 3584]⟩
abbrev S3584x1920 : Shape := ⟨2, ![3584, 1920]⟩
abbrev S128x3584 : Shape := ⟨2, ![128, 3584]⟩
abbrev S1x4x3584 : Shape := ⟨3, ![1, 4, 3584]⟩
abbrev S3584x128 : Shape := ⟨2, ![3584, 128]⟩
abbrev S128 : Shape := ⟨1, ![128]⟩
abbrev S128x1 : Shape := ⟨2, ![128, 1]⟩
abbrev S32x3584 : Shape := ⟨2, ![32, 3584]⟩
abbrev S3584 : Shape := ⟨1, ![3584]⟩
abbrev S256x3584 : Shape := ⟨2, ![256, 3584]⟩
abbrev S1x1x3584 : Shape := ⟨3, ![1, 1, 3584]⟩
abbrev S32x128 : Shape := ⟨2, ![32, 128]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 5
  | .vmem => 9
  | .smem => 0
  | _ => 0

abbrev bufTy : (tb : Table) → Fin (tcTables nBuf tb) → BufTy
  | .hbm, ⟨0, _⟩ => ⟨S1920x3584, .bf16⟩
  | .hbm, ⟨1, _⟩ => ⟨S1x3584, .f32⟩
  | .hbm, ⟨2, _⟩ => ⟨S1920x3584, .fp8e4m3⟩
  | .hbm, ⟨3, _⟩ => ⟨S15x4x3584, .f32⟩
  | .hbm, ⟨4, _⟩ => ⟨S3584x1920, .bf16⟩
  | .local _ .vmem, ⟨0, _⟩ => ⟨S128x3584, .bf16⟩
  | .local _ .vmem, ⟨1, _⟩ => ⟨S128x3584, .bf16⟩
  | .local _ .vmem, ⟨2, _⟩ => ⟨S1x3584, .f32⟩
  | .local _ .vmem, ⟨3, _⟩ => ⟨S128x3584, .fp8e4m3⟩
  | .local _ .vmem, ⟨4, _⟩ => ⟨S128x3584, .fp8e4m3⟩
  | .local _ .vmem, ⟨5, _⟩ => ⟨S1x4x3584, .f32⟩
  | .local _ .vmem, ⟨6, _⟩ => ⟨S1x4x3584, .f32⟩
  | .local _ .vmem, ⟨7, _⟩ => ⟨S3584x128, .bf16⟩
  | .local _ .vmem, ⟨8, _⟩ => ⟨S3584x128, .bf16⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormIdeal.lean ====
variable {F : FTy → Type} [FloatOps F] [Named F]
def κ : String → Option EReal := fun
  | "inv_d_model" => some ((1 / 3584 : ℝ) : EReal)
  | _ => none
-- ==== NormRefIdeal.lean ====
abbrev S1920x3584 : Shape := ⟨2, ![1920, 3584]⟩
abbrev S1x3584 : Shape := ⟨2, ![1, 3584]⟩
abbrev S15x4x3584 : Shape := ⟨3, ![15, 4, 3584]⟩
abbrev S3584x1920 : Shape := ⟨2, ![3584, 1920]⟩
abbrev S1920 : Shape := ⟨1, ![1920]⟩
abbrev S1920x1 : Shape := ⟨2, ![1920, 1]⟩
abbrev S60x32x3584 : Shape := ⟨3, ![60, 32, 3584]⟩
abbrev S60x3584 : Shape := ⟨2, ![60, 3584]⟩
abbrev S254x60x3584 : Shape := ⟨3, ![254, 60, 3584]⟩
abbrev S1x60x3584 : Shape := ⟨3, ![1, 60, 3584]⟩
abbrev S60x1x3584 : Shape := ⟨3, ![60, 1, 3584]⟩

abbrev nBuf : Space → Nat
  | .hbm => 5
  | .vmem => 5
  | .smem => 0
  | _ => 0

abbrev bufTy : (tb : Table) → Fin (tcTables nBuf tb) → BufTy
  | .hbm, ⟨0, _⟩ => ⟨S1920x3584, .bf16⟩
  | .hbm, ⟨1, _⟩ => ⟨S1x3584, .f32⟩
  | .hbm, ⟨2, _⟩ => ⟨S1920x3584, .fp8e4m3⟩
  | .hbm, ⟨3, _⟩ => ⟨S15x4x3584, .f32⟩
  | .hbm, ⟨4, _⟩ => ⟨S3584x1920, .bf16⟩
  | .local _ .vmem, ⟨0, _⟩ => ⟨S1920x3584, .bf16⟩
  | .local _ .vmem, ⟨1, _⟩ => ⟨S1x3584, .f32⟩
  | .local _ .vmem, ⟨2, _⟩ => ⟨S1920x3584, .fp8e4m3⟩
  | .local _ .vmem, ⟨3, _⟩ => ⟨S15x4x3584, .f32⟩
  | .local _ .vmem, ⟨4, _⟩ => ⟨S3584x1920, .bf16⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15x4x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Wgrad.lean ====
abbrev S1920x18944 : Shape := ⟨2, ![1920, 18944]⟩
abbrev S3584x1920 : Shape := ⟨2, ![3584, 1920]⟩
abbrev S1920x3584 : Shape := ⟨2, ![1920, 3584]⟩
abbrev S1x3584 : Shape := ⟨2, ![1, 3584]⟩
abbrev S60x18944 : Shape := ⟨2, ![60, 18944]⟩
abbrev S3584x18944 : Shape := ⟨2, ![3584, 18944]⟩
abbrev S1920x512 : Shape := ⟨2, ![1920, 512]⟩
abbrev S64x3584 : Shape := ⟨2, ![64, 3584]⟩
abbrev S60x512 : Shape := ⟨2, ![60, 512]⟩
abbrev S3584x512 : Shape := ⟨2, ![3584, 512]⟩
abbrev S32x512 : Shape := ⟨2, ![32, 512]⟩
abbrev S512 : Shape := ⟨1, ![512]⟩
abbrev S1x512 : Shape := ⟨2, ![1, 512]⟩
abbrev S256x512 : Shape := ⟨2, ![256, 512]⟩
abbrev S64 : Shape := ⟨1, ![64]⟩
abbrev S64x1 : Shape := ⟨2, ![64, 1]⟩
abbrev S3584 : Shape := ⟨1, ![3584]⟩

abbrev nBuf : Space → Nat
  | .hbm => 10
  | .vmem => 18
  | .smem => 0
  | _ => 0

abbrev bufTy : (tb : Table) → Fin (tcTables nBuf tb) → BufTy
  | .hbm, ⟨0, _⟩ => ⟨S1920x18944, .bf16⟩
  | .hbm, ⟨1, _⟩ => ⟨S3584x1920, .bf16⟩
  | .hbm, ⟨2, _⟩ => ⟨S1920x3584, .f32⟩
  | .hbm, ⟨3, _⟩ => ⟨S1920x3584, .bf16⟩
  | .hbm, ⟨4, _⟩ => ⟨S1x3584, .f32⟩
  | .hbm, ⟨5, _⟩ => ⟨S1920x18944, .fp8e5m2⟩
  | .hbm, ⟨6, _⟩ => ⟨S60x18944, .f32⟩
  | .hbm, ⟨7, _⟩ => ⟨S3584x18944, .f32⟩
  | .hbm, ⟨8, _⟩ => ⟨S1920x3584, .bf16⟩
  | .hbm, ⟨9, _⟩ => ⟨S1x3584, .f32⟩
  | .local _ .vmem, ⟨0, _⟩ => ⟨S1920x512, .bf16⟩
  | .local _ .vmem, ⟨1, _⟩ => ⟨S1920x512, .bf16⟩
  | .local _ .vmem, ⟨2, _⟩ => ⟨S3584x1920, .bf16⟩
  | .local _ .vmem, ⟨3, _⟩ => ⟨S64x3584, .f32⟩
  | .local _ .vmem, ⟨4, _⟩ => ⟨S64x3584, .f32⟩
  | .local _ .vmem, ⟨5, _⟩ => ⟨S64x3584, .bf16⟩
  | .local _ .vmem, ⟨6, _⟩ => ⟨S64x3584, .bf16⟩
  | .local _ .vmem, ⟨7, _⟩ => ⟨S1x3584, .f32⟩
  | .local _ .vmem, ⟨8, _⟩ => ⟨S1920x512, .fp8e5m2⟩
  | .local _ .vmem, ⟨9, _⟩ => ⟨S1920x512, .fp8e5m2⟩
  | .local _ .vmem, ⟨10, _⟩ => ⟨S60x512, .f32⟩
  | .local _ .vmem, ⟨11, _⟩ => ⟨S60x512, .f32⟩
  | .local _ .vmem, ⟨12, _⟩ => ⟨S3584x512, .f32⟩
  | .local _ .vmem, ⟨13, _⟩ => ⟨S3584x512, .f32⟩
  | .local _ .vmem, ⟨14, _⟩ => ⟨S64x3584, .bf16⟩
  | .local _ .vmem, ⟨15, _⟩ => ⟨S64x3584, .bf16⟩
  | .local _ .vmem, ⟨16, _⟩ => ⟨S1x3584, .f32⟩
  | .local _ .vmem, ⟨17, _⟩ => ⟨S1920x512, .bf16⟩
  | _, _ => ⟨S1920x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1920x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1920x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S60x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3584x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== WgradIdeal.lean ====
variable {F : FTy → Type} [FloatOps F] [Named F]
def κ : String → Option EReal := fun
  | "inv_d_model" => some ((1 / 3584 : ℝ) : EReal)
  | _ => none
-- ==== WgradRefIdeal.lean ====
abbrev S1920x18944 : Shape := ⟨2, ![1920, 18944]⟩
abbrev S3584x1920 : Shape := ⟨2, ![3584, 1920]⟩
abbrev S1920x3584 : Shape := ⟨2, ![1920, 3584]⟩
abbrev S1x3584 : Shape := ⟨2, ![1, 3584]⟩
abbrev S60x18944 : Shape := ⟨2, ![60, 18944]⟩
abbrev S3584x18944 : Shape := ⟨2, ![3584, 18944]⟩
abbrev S60x32x18944 : Shape := ⟨3, ![60, 32, 18944]⟩
abbrev S254x60x18944 : Shape := ⟨3, ![254, 60, 18944]⟩
abbrev S1x60x18944 : Shape := ⟨3, ![1, 60, 18944]⟩
abbrev S60x1x18944 : Shape := ⟨3, ![60, 1, 18944]⟩
abbrev S1920 : Shape := ⟨1, ![1920]⟩
abbrev S1920x1 : Shape := ⟨2, ![1920, 1]⟩
abbrev S3584 : Shape := ⟨1, ![3584]⟩

abbrev nBuf : Space → Nat
  | .hbm => 10
  | .vmem => 10
  | .smem => 0
  | _ => 0

abbrev bufTy : (tb : Table) → Fin (tcTables nBuf tb) → BufTy
  | .hbm, ⟨0, _⟩ => ⟨S1920x18944, .bf16⟩
  | .hbm, ⟨1, _⟩ => ⟨S3584x1920, .bf16⟩
  | .hbm, ⟨2, _⟩ => ⟨S1920x3584, .f32⟩
  | .hbm, ⟨3, _⟩ => ⟨S1920x3584, .bf16⟩
  | .hbm, ⟨4, _⟩ => ⟨S1x3584, .f32⟩
  | .hbm, ⟨5, _⟩ => ⟨S1920x18944, .fp8e5m2⟩
  | .hbm, ⟨6, _⟩ => ⟨S60x18944, .f32⟩
  | .hbm, ⟨7, _⟩ => ⟨S3584x18944, .f32⟩
  | .hbm, ⟨8, _⟩ => ⟨S1920x3584, .bf16⟩
  | .hbm, ⟨9, _⟩ => ⟨S1x3584, .f32⟩
  | .local _ .vmem, ⟨0, _⟩ => ⟨S1920x18944, .bf16⟩
  | .local _ .vmem, ⟨1, _⟩ => ⟨S3584x1920, .bf16⟩
  | .local _ .vmem, ⟨2, _⟩ => ⟨S1920x3584, .f32⟩
  | .local _ .vmem, ⟨3, _⟩ => ⟨S1920x3584, .bf16⟩
  | .local _ .vmem, ⟨4, _⟩ => ⟨S1x3584, .f32⟩
  | .local _ .vmem, ⟨5, _⟩ => ⟨S1920x18944, .fp8e5m2⟩
  | .local _ .vmem, ⟨6, _⟩ => ⟨S60x18944, .f32⟩
  | .local _ .vmem, ⟨7, _⟩ => ⟨S3584x18944, .f32⟩
  | .local _ .vmem, ⟨8, _⟩ => ⟨S1920x3584, .bf16⟩
  | .local _ .vmem, ⟨9, _⟩ => ⟨S1x3584, .f32⟩
  | _, _ => ⟨S1920x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1920x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x18944 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S60x18944 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x18944 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Dgrad.lean ====
abbrev S1920x18944 : Shape := ⟨2, ![1920, 18944]⟩
abbrev S3584x18944 : Shape := ⟨2, ![3584, 18944]⟩
abbrev S1920x3584 : Shape := ⟨2, ![1920, 3584]⟩
abbrev S1920x512 : Shape := ⟨2, ![1920, 512]⟩
abbrev S3584x512 : Shape := ⟨2, ![3584, 512]⟩
abbrev S_ : Shape := ⟨0, ![]⟩

abbrev nBuf : Space → Nat
  | .hbm => 3
  | .vmem => 7
  | .smem => 0
  | _ => 0

abbrev bufTy : (tb : Table) → Fin (tcTables nBuf tb) → BufTy
  | .hbm, ⟨0, _⟩ => ⟨S1920x18944, .bf16⟩
  | .hbm, ⟨1, _⟩ => ⟨S3584x18944, .bf16⟩
  | .hbm, ⟨2, _⟩ => ⟨S1920x3584, .f32⟩
  | .local _ .vmem, ⟨0, _⟩ => ⟨S1920x512, .bf16⟩
  | .local _ .vmem, ⟨1, _⟩ => ⟨S1920x512, .bf16⟩
  | .local _ .vmem, ⟨2, _⟩ => ⟨S3584x512, .bf16⟩
  | .local _ .vmem, ⟨3, _⟩ => ⟨S3584x512, .bf16⟩
  | .local _ .vmem, ⟨4, _⟩ => ⟨S1920x512, .bf16⟩
  | .local _ .vmem, ⟨5, _⟩ => ⟨S3584x512, .bf16⟩
  | .local _ .vmem, ⟨6, _⟩ => ⟨S1920x3584, .f32⟩
  | _, _ => ⟨S1920x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1920x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DgradRefIdeal.lean ====
abbrev S1920x18944 : Shape := ⟨2, ![1920, 18944]⟩
abbrev S3584x18944 : Shape := ⟨2, ![3584, 18944]⟩
abbrev S1920x3584 : Shape := ⟨2, ![1920, 3584]⟩

abbrev nBuf : Space → Nat
  | .hbm => 3
  | .vmem => 0
  | .smem => 0
  | _ => 0

abbrev bufTy : (tb : Table) → Fin (tcTables nBuf tb) → BufTy
  | .hbm, ⟨0, _⟩ => ⟨S1920x18944, .bf16⟩
  | .hbm, ⟨1, _⟩ => ⟨S3584x18944, .bf16⟩
  | .hbm, ⟨2, _⟩ => ⟨S1920x3584, .f32⟩
  | _, _ => ⟨S1920x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Scale.lean ====
/- The power-of-two scale of a group, two ways.  The kernel reads the exponent of `p` (the group's largest magnitude
   over the format's largest value) and builds the bits of the scale and of its inverse; the reference takes the least
   power of two above `p`.  For a finite `p` below `2 ^ 126` the two agree (`kscale_eq`, `kinv_eq`). -/
module

public import Idealize.ShloMosaic.Lib.Pointwise
public import Idealize.ShloMosaic.Lib.IndicatorCount

@[expose] public section

set_option maxRecDepth 16384

noncomputable section

namespace Cert.Mx

open Idealize.ShloMosaic

/-- The word whose exponent field is `n` and whose other bits are zero. -/
def word (n : BitVec 32) : BitVec 32 := IntOp.shli .vector n 23#32

theorem word_fields : ∀ n : Fin 256, ((word (BitVec.ofNat 32 n)).extractLsb' 31 1 == 1#1) = false
    ∧ ((word (BitVec.ofNat 32 n)).extractLsb' 23 8).toNat = n.val
    ∧ ((word (BitVec.ofNat 32 n)).extractLsb' 0 23).toNat = 0 := by
  decide +kernel

theorem word_zero : Ideal.ofBits .f32 (word (BitVec.ofNat 32 0)) = 0 := by
  obtain ⟨h1, h2, h3⟩ := word_fields 0
  change Ideal.ieee 8 23 (word (BitVec.ofNat 32 ((0 : Fin 256) : ℕ))) = 0
  simp only [Ideal.ieee, h1, h2, h3]
  simp

theorem word_top : Ideal.ofBits .f32 (word (BitVec.ofNat 32 255)) = ⊤ := by
  obtain ⟨h1, h2, h3⟩ := word_fields 255
  change Ideal.ieee 8 23 (word (BitVec.ofNat 32 ((255 : Fin 256) : ℕ))) = ⊤
  simp only [Ideal.ieee, h1, h2, h3]
  simp

theorem mantissa : ((2 ^ 23 + 0 : ℕ) : ℝ) = (2 : ℝ) ^ (23 : ℤ) := by norm_num

theorem exponent (n : ℕ) : (23 : ℤ) + ((n : ℤ) - (2 ^ (8 - 1) - 1) - (23 : ℕ)) = (n : ℤ) - 127 := by
  norm_num

/-- A word with exponent field `n`, neither of the two reserved ones, is the power of two `2 ^ (n - 127)`. -/
theorem word_pow (n : ℕ) (h0 : 0 < n) (h1 : n < 255) :
    Ideal.ofBits .f32 (word (BitVec.ofNat 32 n)) = (((2 : ℝ) ^ ((n : ℤ) - 127) : ℝ) : EReal) := by
  obtain ⟨e1, e2, e3⟩ := word_fields ⟨n, by omega⟩
  simp only at e1 e2 e3
  change Ideal.ieee 8 23 (word (BitVec.ofNat 32 n)) = _
  have hn : ¬ n = 2 ^ 8 - 1 := by omega
  have hn0 : ¬ n = 0 := by omega
  simp only [Ideal.ieee, e1, e2, e3, if_neg hn, if_neg hn0, Bool.false_eq_true, if_false]
  rw [EReal.coe_eq_coe_iff, one_mul, mantissa, ← zpow_add₀ (by norm_num)]
  exact congrArg ((2 : ℝ) ^ ·) (exponent n)

/-- How many of the 256 words are at most `p`. -/
def count (p : EReal) : BitVec 32 :=
  Finset.univ.fold IntOp.addi 0#32 (fun k : Fin 256 =>
    BitVec.setWidth 32 (BitVec.ofBool (decide (Ideal.ofBits .f32 (word (BitVec.ofNat 32 k)) ≤ p))))

/-- The kernel's biased exponent of the scale: one above the exponent of `p`, or the bias for a `p` below the
    normal range. -/
def field (p : EReal) : BitVec 32 :=
  Scalar.select (IntOp.cmpi .sle (IntOp.addi (IntOp.subi (count p) 1#32) 1#32) 1#32) 127#32
    (IntOp.addi (IntOp.subi (count p) 1#32) 1#32)

/-- The kernel's scale and inverse scale. -/
def kscale (p : EReal) : EReal := Ideal.ofBits .f32 (word (field p))
def kinv (p : EReal) : EReal := Ideal.ofBits .f32 (word (IntOp.subi 254#32 (field p)))

/-- The reference's `k`-th power of two. -/
def power (k : Fin 254) : EReal :=
  FloatOps.exp2 (F := Ideal) (φ := .f32) (FloatOps.sitofp (F := Ideal) .f32 (IntOp.subi (BitVec.ofNat 32 k) 126#32))

/-- The reference's scale: the least power of two above `p`, or one for a `p` below the normal range. -/
def rscale (p : EReal) : EReal :=
  if p < Ideal.ofBits .f32 0x00800000#32 then 1
  else Finset.univ.fold min (Ideal.ofBits .f32 0x7F800000#32)
    (fun k : Fin 254 => if p < power k then power k else Ideal.ofBits .f32 0x7F800000#32)

theorem power_eq (k : Fin 254) : power k = (((2 : ℝ) ^ ((k.val : ℤ) - 126) : ℝ) : EReal) := by
  have h : (IntOp.subi (BitVec.ofNat 32 k) 126#32).toInt = (k.val : ℤ) - 126 := by
    have : ∀ k : Fin 254, (IntOp.subi (BitVec.ofNat 32 k) 126#32).toInt = (k.val : ℤ) - 126 := by decide +kernel
    exact this k
  change Ideal.exp2 (((IntOp.subi (BitVec.ofNat 32 k) 126#32).toInt : ℝ) : EReal) = _
  rw [h, Ideal.exp2_coe]
  congr 1
  exact Real.rpow_intCast 2 _

theorem ofBits_inf : Ideal.ofBits .f32 0x7F800000#32 = ⊤ := by simp [Ideal.ofBits, Ideal.ieee]

theorem ofBits_least : Ideal.ofBits .f32 0x00800000#32 = (((2 : ℝ) ^ (-126 : ℤ) : ℝ) : EReal) := word_pow 1 (by omega) (by omega)

theorem pow_le_pow {a b : ℤ} : ((2 : ℝ) ^ a ≤ (2 : ℝ) ^ b) ↔ a ≤ b := zpow_le_zpow_iff_right₀ (by norm_num)

/-- Exactly the words of exponent field at most `n` are at most `p`. -/
theorem count_eq (x : ℝ) (n : ℕ) (hn : n < 254) (h0 : 0 ≤ x) (hlo : 0 < n → (2 : ℝ) ^ ((n : ℤ) - 127) ≤ x)
    (hhi : x < (2 : ℝ) ^ ((n : ℤ) - 126)) : count (x : EReal) = BitVec.ofNat 32 (n + 1) := by
  rw [count, IndicatorCount.fold_addi_setWidth_eq_card]
  congr 1
  have : (Finset.univ.filter fun k : Fin 256 =>
      BitVec.ofBool (decide (Ideal.ofBits .f32 (word (BitVec.ofNat 32 k)) ≤ (x : EReal))) = 1#1)
      = Finset.Iic (⟨n, by omega⟩ : Fin 256) := by
    ext k
    have hb : ∀ c : Bool, (BitVec.ofBool c = 1#1) ↔ c = true := by decide
    rw [Finset.mem_filter, Finset.mem_Iic, hb, decide_eq_true_iff]
    simp only [Finset.mem_univ, true_and]
    change _ ↔ k.val ≤ n
    rcases Nat.eq_zero_or_pos k.val with hk | hk
    · rw [hk, word_zero]
      exact ⟨fun _ => Nat.zero_le _, fun _ => by exact_mod_cast h0⟩
    · by_cases hk' : k.val < 255
      · rw [word_pow _ hk hk', EReal.coe_le_coe_iff]
        constructor
        · intro h
          have := lt_of_le_of_lt h hhi
          rw [zpow_lt_zpow_iff_right₀ (by norm_num)] at this
          omega
        · intro h
          refine le_trans ?_ (hlo (by omega))
          rw [pow_le_pow]; omega
      · have hk2 : k.val = 255 := by omega
        rw [hk2, word_top, top_le_iff]
        exact ⟨fun h => absurd h (EReal.coe_ne_top x), fun h => by omega⟩
  rw [this, Fin.card_Iic]

theorem field_small : ∀ n : Fin 1, Scalar.select (IntOp.cmpi .sle (IntOp.addi (IntOp.subi (BitVec.ofNat 32 (n + 1)) 1#32) 1#32) 1#32) 127#32
    (IntOp.addi (IntOp.subi (BitVec.ofNat 32 (n + 1)) 1#32) 1#32) = BitVec.ofNat 32 127 := by decide +kernel

theorem field_large : ∀ n : Fin 253, 0 < n.val →
    Scalar.select (IntOp.cmpi .sle (IntOp.addi (IntOp.subi (BitVec.ofNat 32 (n + 1)) 1#32) 1#32) 1#32) 127#32
      (IntOp.addi (IntOp.subi (BitVec.ofNat 32 (n + 1)) 1#32) 1#32) = BitVec.ofNat 32 (n + 1)
    ∧ IntOp.subi 254#32 (BitVec.ofNat 32 (n + 1)) = BitVec.ofNat 32 (253 - n) := by decide +kernel

/-- The scale, its inverse and the reference's scale at a `p` in the binade of exponent field `n`. -/
theorem scales (x : ℝ) (h0 : 0 ≤ x) (h1 : x < (2 : ℝ) ^ (126 : ℤ)) :
    ∃ e : ℤ, kscale (x : EReal) = (((2 : ℝ) ^ e : ℝ) : EReal) ∧ kinv (x : EReal) = (((2 : ℝ) ^ (-e) : ℝ) : EReal)
      ∧ rscale (x : EReal) = (((2 : ℝ) ^ e : ℝ) : EReal) := by
  by_cases hs : x < (2 : ℝ) ^ (-126 : ℤ)
  · have hf : field (x : EReal) = BitVec.ofNat 32 127 := by
      rw [field, count_eq x 0 (by omega) h0 (fun h => absurd h (by omega)) (by simpa using hs)]
      exact field_small 0
    refine ⟨0, ?_, ?_, ?_⟩
    · rw [kscale, hf, word_pow 127 (by omega) (by omega)]; norm_num
    · have : IntOp.subi 254#32 (BitVec.ofNat 32 127) = BitVec.ofNat 32 127 := by decide
      rw [kinv, hf, this, word_pow 127 (by omega) (by omega)]; norm_num
    · rw [rscale, if_pos]
      · norm_num
      · rw [ofBits_least]; exact_mod_cast hs
  · push Not at hs
    have hx : 0 < x := lt_of_lt_of_le (by positivity) hs
    obtain ⟨e, he1, he2⟩ := exists_mem_Ico_zpow (x := x) (y := (2 : ℝ)) hx (by norm_num)
    have hle : -126 ≤ e := by
      have := lt_of_le_of_lt hs he2
      rw [zpow_lt_zpow_iff_right₀ (by norm_num)] at this
      omega
    have hlt : e < 126 := by
      have := lt_of_le_of_lt he1 h1
      rwa [zpow_lt_zpow_iff_right₀ (by norm_num)] at this
    obtain ⟨n, hn⟩ : ∃ n : ℕ, (n : ℤ) = e + 127 := ⟨(e + 127).toNat, by omega⟩
    have hn0 : 0 < n := by omega
    have hn1 : n < 253 := by omega
    obtain ⟨f1, f2⟩ := field_large ⟨n, hn1⟩ hn0
    have hf : field (x : EReal) = BitVec.ofNat 32 (n + 1) := by
      rw [field, count_eq x n (by omega) h0 (fun _ => by rw [show (n : ℤ) - 127 = e by omega]; exact he1)
        (by rw [show (n : ℤ) - 126 = e + 1 by omega]; exact he2)]
      exact f1
    refine ⟨e + 1, ?_, ?_, ?_⟩
    · rw [kscale, hf, word_pow (n + 1) (by omega) (by omega)]
      rw [show (((n + 1 : ℕ) : ℤ) - 127) = e + 1 by push_cast; omega]
    · rw [kinv, hf, f2]
      change Ideal.ofBits .f32 (word (BitVec.ofNat 32 (253 - n))) = _
      rw [word_pow (253 - n) (by omega) (by omega)]
      rw [show (((253 - n : ℕ) : ℤ) - 127) = -(e + 1) by omega]
    · rw [rscale, if_neg, ofBits_inf]
      · apply le_antisymm
        · refine (Finset.fold_min_le _).2 (Or.inr ⟨⟨n, by omega⟩, Finset.mem_univ _, ?_⟩)
          rw [power_eq, if_pos]
          · rw [EReal.coe_le_coe_iff, pow_le_pow]; simp only; omega
          · rw [EReal.coe_lt_coe_iff]; simp only; rw [show (n : ℤ) - 126 = e + 1 by omega]; exact he2
        · refine (Finset.le_fold_min _).2 ⟨le_top, fun k _ => ?_⟩
          split
          · rename_i h
            rw [power_eq, EReal.coe_lt_coe_iff] at h
            rw [power_eq, EReal.coe_le_coe_iff, pow_le_pow]
            have := lt_of_le_of_lt he1 h
            rw [zpow_lt_zpow_iff_right₀ (by norm_num)] at this
            omega
          · exact le_top
      · rw [ofBits_least, EReal.coe_lt_coe_iff]; exact not_lt.2 hs

theorem kscale_eq (x : ℝ) (h0 : 0 ≤ x) (h1 : x < (2 : ℝ) ^ (126 : ℤ)) : kscale (x : EReal) = rscale (x : EReal) := by
  obtain ⟨e, h, _, h'⟩ := scales x h0 h1
  rw [h, h']

theorem kinv_eq (x : ℝ) (h0 : 0 ≤ x) (h1 : x < (2 : ℝ) ^ (126 : ℤ)) : kinv (x : EReal) = Ideal.div 1 (rscale (x : EReal)) := by
  obtain ⟨e, _, h, h'⟩ := scales x h0 h1
  rw [h, h', Ideal.div_coe (by positivity), one_mul, one_div, zpow_neg]

end Cert.Mx

end
-- ==== Proof.Block.lean ====
/- What one grid point of the kernel writes: scales, codes and the decoded codes of a block of `dy`, element by element. -/
module
public import proofs.«01_k».proof.Proof.Gen.WgradIdeal.Value
public import Idealize.ShloMosaic.Lib.Pipeline.ValueKit
public import Idealize.ShloMosaic.Lib.Pointwise
public import proofs.«01_k».proof.Proof.Scale
@[expose] public section
set_option maxRecDepth 16384
set_option maxHeartbeats 400000
noncomputable section
namespace Cert.WgradIdeal.Value
open Cert.Mx Cert.WgradIdeal Cert.WgradIdeal.Gen Idealize.ShloMosaic Idealize.ShloMosaic.TcCoe Idealize.SL.Sem
open Idealize.ShloMosaic.Pipeline (Dat)
variable (m : (ℓ : Loc nD τ sig) → Buf (Elt Ideal) ℓ)

/-- The scale row, the codes and the decoded codes of one group of 32 rows. -/
def groupScale (v : Vec Ideal S32x512 .bf16) : FVec Ideal S1x512 .f32 := k0_pay4 v
def groupCodes (v : Vec Ideal S32x512 .bf16) : FVec Ideal S32x512 .fp8e5m2 := k0_pay10 v (k0_pay8 v)
def groupDecoded (v : Vec Ideal S32x512 .bf16) : FVec Ideal S32x512 .bf16 := k0_pay11 v (k0_pay8 v) (k0_pay9 v)

/-- The largest magnitude of column `c` of a group, times the reciprocal of the format's largest value. -/
def groupRatio (v : Vec Ideal S32x512 .bf16) (c : Fin 512) : EReal :=
  Finset.univ.fold max (Ideal.ofBits FTy.f32 0xFF800000#32)
    (fun k : Fin 32 => FloatOps.absf (F := Ideal) (φ := .f32) (v (ix2 k c))) * Ideal.ofBits FTy.f32 0x37924925#32

/-- The code of an element whose group has ratio `p`. -/
def kcode (x p : EReal) : EReal :=
  min (Ideal.ofBits .f32 0x47600000#32) (max (Ideal.ofBits .f32 0xC7600000#32) (x * kinv p))

theorem groupScale_at (v : Vec Ideal S32x512 .bf16) (c : Fin 512) : groupScale v (ix2 0 c) = kscale (groupRatio v c) := by
  unfold groupScale
  pointwise [k0_pay4, k0_pay3]
  rfl
theorem groupCodes_at (v : Vec Ideal S32x512 .bf16) (r : Fin 32) (c : Fin 512) :
    groupCodes v (ix2 r c) = kcode (v (ix2 r c)) (groupRatio v c) := by
  unfold groupCodes
  pointwise [k0_pay10, k0_pay8]
  rfl
theorem groupDecoded_at (v : Vec Ideal S32x512 .bf16) (r : Fin 32) (c : Fin 512) :
    groupDecoded v (ix2 r c) = kcode (v (ix2 r c)) (groupRatio v c) * kscale (groupRatio v c) := by
  unfold groupDecoded
  pointwise [k0_pay11, k0_pay10, k0_pay9, k0_pay8]
  rfl

/-- The ratio of group `g` of column `c` of a block. -/
def blockRatio (B : Vec Ideal S1920x512 .bf16) (g : Fin 60) (c : Fin 512) : EReal :=
  Finset.univ.fold max (Ideal.ofBits FTy.f32 0xFF800000#32)
    (fun k : Fin 32 => FloatOps.absf (F := Ideal) (φ := .f32) (B (ix2 ⟨g.val * 32 + k.val, by omega⟩ c)))
    * Ideal.ofBits FTy.f32 0x37924925#32

def blockScales (B : Vec Ideal S1920x512 .bf16) : Vec Ideal S60x512 .f32 := fun y => kscale (blockRatio B (y 0) (y 1))
def blockCodes (B : Vec Ideal S1920x512 .bf16) : Vec Ideal S1920x512 .fp8e5m2 := fun y =>
  kcode (B y) (blockRatio B ⟨(y 0).val / 32, by have : (y 0).val < 1920 := (y 0).isLt; omega⟩ (y 1))
def blockDecoded (B : Vec Ideal S1920x512 .bf16) : Vec Ideal S1920x512 .bf16 := fun y =>
  kcode (B y) (blockRatio B ⟨(y 0).val / 32, by have : (y 0).val < 1920 := (y 0).isLt; omega⟩ (y 1))
    * kscale (blockRatio B ⟨(y 0).val / 32, by have : (y 0).val < 1920 := (y 0).isLt; omega⟩ (y 1))

theorem ld_at (B : Vec Ideal S1920x512 .bf16) (o : ℕ) (inb) (r : Fin 32) (c : Fin 512) (h : o + r.val < 1920) :
    View.ld B (Rect.unit (s := S1920x512) ![o, 0] ![32, 512] inb) (ix2 r c) = B (ix2 ⟨o + r.val, h⟩ c) := by
  refine congrArg B (funext fun a => ?_)
  match a with
  | ⟨0, _⟩ => exact Fin.ext (by show o + 1 * r.val = o + r.val; omega)
  | ⟨1, _⟩ => exact Fin.ext (by show 0 + 1 * c.val = c.val; omega)

theorem ratio_ld (B : Vec Ideal S1920x512 .bf16) (o k : ℕ) (ho : o = 32 * k) (hk : k < 60) (inb) (c : Fin 512) :
    groupRatio (View.ld B (Rect.unit (s := S1920x512) ![o, 0] ![32, 512] inb)) c = blockRatio B ⟨k, hk⟩ c := by
  unfold groupRatio blockRatio
  refine congrArg (fun f => Finset.univ.fold max (Ideal.ofBits FTy.f32 0xFF800000#32) f * Ideal.ofBits FTy.f32 0x37924925#32) (funext fun r => ?_)
  rw [ld_at B o inb r c (by omega)]
  have h : (⟨o + r.val, by omega⟩ : Fin 1920) = ⟨k * 32 + r.val, by omega⟩ := Fin.ext (by show o + r.val = k * 32 + r.val; omega)
  rw [h]

theorem row_emb (k : ℕ) (hk : k < 60) (inb) (c : Fin 512) :
    (Rect.unit (s := S60x512) ![k, 0] ![1, 512] inb).emb (ix2 (0 : Fin 1) c) = ix2 ⟨k, hk⟩ c := by
  funext a
  match a with
  | ⟨0, _⟩ => exact Fin.ext (by show k + 1 * 0 = k; omega)
  | ⟨1, _⟩ => exact Fin.ext (by show 0 + 1 * c.val = c.val; omega)

theorem rows_emb (o : ℕ) (inb) (r : Fin 32) (c : Fin 512) (h : o + r.val < 1920) :
    (Rect.unit (s := S1920x512) ![o, 0] ![32, 512] inb).emb (ix2 r c) = ix2 ⟨o + r.val, h⟩ c := by
  funext a
  match a with
  | ⟨0, _⟩ => exact Fin.ext (by show o + 1 * r.val = o + r.val; omega)
  | ⟨1, _⟩ => exact Fin.ext (by show 0 + 1 * c.val = c.val; omega)

theorem scale_piece (B : Vec Ideal S1920x512 .bf16) (o k : ℕ) (ho : o = 32 * k) (hk : k < 60) (inb) (inb')
    (w : Vec Ideal S1x512 .f32) (hw : w = groupScale (View.ld B (Rect.unit (s := S1920x512) ![o, 0] ![32, 512] inb)))
    (r : Fin 1) (c : Fin 512) :
    w (ix2 r c)
      = blockScales B ((Rect.unit (s := S60x512) ![k, 0] ![1, 512] inb').emb (ix2 r c)) := by
  obtain rfl : r = 0 := Subsingleton.elim _ _
  rw [hw, groupScale_at, row_emb k hk, ratio_ld B o k ho hk]
  rfl
theorem code_piece (B : Vec Ideal S1920x512 .bf16) (o k : ℕ) (ho : o = 32 * k) (hk : k < 60) (inb) (inb')
    (w : Vec Ideal S32x512 .fp8e5m2) (hw : w = groupCodes (View.ld B (Rect.unit (s := S1920x512) ![o, 0] ![32, 512] inb)))
    (r : Fin 32) (c : Fin 512) :
    w (ix2 r c)
      = blockCodes B ((Rect.unit (s := S1920x512) ![o, 0] ![32, 512] inb').emb (ix2 r c)) := by
  have h : o + r.val < 1920 := by omega
  rw [hw, groupCodes_at, rows_emb o inb' r c h, ratio_ld B o k ho hk, ld_at B o inb r c h]
  have e : (⟨k, hk⟩ : Fin 60) = ⟨(o + r.val) / 32, by omega⟩ := Fin.ext (by show k = (o + r.val) / 32; omega)
  rw [e]
  rfl
theorem decoded_piece (B : Vec Ideal S1920x512 .bf16) (o k : ℕ) (ho : o = 32 * k) (hk : k < 60) (inb) (inb')
    (w : Vec Ideal S32x512 .bf16) (hw : w = groupDecoded (View.ld B (Rect.unit (s := S1920x512) ![o, 0] ![32, 512] inb)))
    (r : Fin 32) (c : Fin 512) :
    w (ix2 r c)
      = blockDecoded B ((Rect.unit (s := S1920x512) ![o, 0] ![32, 512] inb').emb (ix2 r c)) := by
  have h : o + r.val < 1920 := by omega
  rw [hw, groupDecoded_at, rows_emb o inb' r c h, ratio_ld B o k ho hk, ld_at B o inb r c h]
  have e : (⟨k, hk⟩ : Fin 60) = ⟨(o + r.val) / 32, by omega⟩ := Fin.ext (by show k = (o + r.val) / 32; omega)
  rw [e]
  rfl

/-- One row of the scales, the last of the rows still to be read. -/
theorem scale_step (G : Vec Ideal S60x512 .f32) (n k : ℕ) (hn : n = k + 1) (inb) (w : Vec Ideal S1x512 .f32)
    (L : List (View.Piece (Elt Ideal) S60x512 .f32)) (y : S60x512.Idx)
    (hw : ∀ (r : Fin 1) (c : Fin 512), w (ix2 r c) = G ((Rect.unit (s := S60x512) ![k, 0] ![1, 512] inb).emb (ix2 r c)))
    (hy : (y 0).val < n) (hL : (y 0).val < k → View.canon L y = G y) :
    View.canon (⟨Rect.unit (s := S60x512) ![k, 0] ![1, 512] inb, w⟩ :: L) y = G y := by
  by_cases h : (y 0).val < k
  · rw [View.canon_cons_of_not_mem _ _ (fun hm => ?_)]
    · exact hL h
    · obtain ⟨x, hx⟩ := (Rect.unit (s := S60x512) ![k, 0] ![1, 512] inb).exists_idx_of_mem hm
      have := congrArg (fun z : S60x512.Idx => (z 0).val) hx
      have e : k + 1 * (x 0).val = (y 0).val := this
      omega
  · have hk : (y 0).val = k := by omega
    have hy1 : (y 1).val < 512 := (y 1).isLt
    have e : y = (Rect.unit (s := S60x512) ![k, 0] ![1, 512] inb).emb (ix2 (0 : Fin 1) (⟨(y 1).val, hy1⟩ : Fin 512)) := by
      funext a
      match a with
      | ⟨0, _⟩ => exact Fin.ext (by show (y 0).val = k + 1 * 0; omega)
      | ⟨1, _⟩ => exact Fin.ext (by show (y 1).val = 0 + 1 * (y 1).val; omega)
    rw [e, View.canon_cons_emb]
    exact hw _ _

/-- One group of 32 rows, the last of the groups still to be read. -/
theorem rows_step {e : EltTy} (G : Vec Ideal S1920x512 e) (n o : ℕ) (hn : n = o + 32) (inb) (w : Vec Ideal S32x512 e)
    (L : List (View.Piece (Elt Ideal) S1920x512 e)) (y : S1920x512.Idx)
    (hw : ∀ (r : Fin 32) (c : Fin 512), w (ix2 r c) = G ((Rect.unit (s := S1920x512) ![o, 0] ![32, 512] inb).emb (ix2 r c)))
    (hy : (y 0).val < n) (hL : (y 0).val < o → View.canon L y = G y) :
    View.canon (⟨Rect.unit (s := S1920x512) ![o, 0] ![32, 512] inb, w⟩ :: L) y = G y := by
  by_cases h : (y 0).val < o
  · rw [View.canon_cons_of_not_mem _ _ (fun hm => ?_)]
    · exact hL h
    · obtain ⟨x, hx⟩ := (Rect.unit (s := S1920x512) ![o, 0] ![32, 512] inb).exists_idx_of_mem hm
      have := congrArg (fun z : S1920x512.Idx => (z 0).val) hx
      have e : o + 1 * (x 0).val = (y 0).val := this
      omega
  · have hy1 : (y 1).val < 512 := (y 1).isLt
    have e : y = (Rect.unit (s := S1920x512) ![o, 0] ![32, 512] inb).emb (ix2 (⟨(y 0).val - o, by omega⟩ : Fin 32) (⟨(y 1).val, hy1⟩ : Fin 512)) := by
      funext a
      match a with
      | ⟨0, _⟩ => exact Fin.ext (by show (y 0).val = o + 1 * ((y 0).val - o); omega)
      | ⟨1, _⟩ => exact Fin.ext (by show (y 1).val = 0 + 1 * (y 1).val; omega)
    rw [e, View.canon_cons_emb]
    exact hw _ _

end Cert.WgradIdeal.Value
end
-- ==== Proof.Groups.lean ====
/- Each of the 60 groups' payloads is the same function of the group's rows, and the 60 pieces make up the block. -/
module
public import proofs.«01_k».proof.Proof.Block
@[expose] public section
set_option maxRecDepth 16384
noncomputable section
namespace Cert.WgradIdeal.Value
open Cert.Mx Cert.WgradIdeal Cert.WgradIdeal.Gen Idealize.ShloMosaic Idealize.ShloMosaic.TcCoe Idealize.SL.Sem
open Idealize.ShloMosaic.Pipeline (Dat)

section
variable (v : Vec Ideal S32x512 .bf16)

theorem scale0 : k0_pay4 v = groupScale v := rfl
theorem codes0 : k0_pay6 (k0_pay5 v) (FloatOps.ofBits .f32 0xC7600000#32) = groupCodes v := rfl
theorem decoded0 : k0_pay7 (k0_pay4 v) (k0_pay5 v) (FloatOps.ofBits .f32 0xC7600000#32) = groupDecoded v := rfl
theorem scale1 : k0_pay9 v = groupScale v := rfl
theorem codes1 : k0_pay10 v (k0_pay8 v) = groupCodes v := rfl
theorem decoded1 : k0_pay11 v (k0_pay8 v) (k0_pay9 v) = groupDecoded v := rfl
theorem scale2 : k0_pay14 (k0_pay12 v) 1#32 = groupScale v := rfl
theorem codes2 : k0_pay15 v (k0_pay12 v) 1#32 = groupCodes v := rfl
theorem decoded2 : k0_pay16 v (k0_pay12 v) 1#32 = groupDecoded v := rfl
theorem scale3 : k0_pay19 (k0_pay17 v) = groupScale v := rfl
theorem codes3 : k0_pay20 v (k0_pay17 v) = groupCodes v := rfl
theorem decoded3 : k0_pay23 (k0_pay21 v (k0_pay17 v)) (k0_pay22 (k0_pay17 v)) = groupDecoded v := rfl
theorem scale4 : k0_pay25 v = groupScale v := rfl
theorem codes4 : k0_pay27 (k0_pay26 v) (FloatOps.ofBits .f32 0xC7600000#32) = groupCodes v := rfl
theorem decoded4 : k0_pay28 (k0_pay25 v) (k0_pay26 v) (FloatOps.ofBits .f32 0xC7600000#32) = groupDecoded v := rfl
theorem scale5 : k0_pay30 v = groupScale v := rfl
theorem codes5 : k0_pay31 v (k0_pay29 v) = groupCodes v := rfl
theorem decoded5 : k0_pay32 v (k0_pay29 v) (k0_pay30 v) = groupDecoded v := rfl
theorem scale6 : k0_pay35 (k0_pay33 v) 1#32 = groupScale v := rfl
theorem codes6 : k0_pay36 v (k0_pay33 v) 1#32 = groupCodes v := rfl
theorem decoded6 : k0_pay37 v (k0_pay33 v) 1#32 = groupDecoded v := rfl
theorem scale7 : k0_pay40 (k0_pay38 v) = groupScale v := rfl
theorem codes7 : k0_pay41 v (k0_pay38 v) = groupCodes v := rfl
theorem decoded7 : k0_pay44 (k0_pay42 v (k0_pay38 v)) (k0_pay43 (k0_pay38 v)) = groupDecoded v := rfl
theorem scale8 : k0_pay46 v = groupScale v := rfl
theorem codes8 : k0_pay48 (k0_pay47 v) (FloatOps.ofBits .f32 0xC7600000#32) = groupCodes v := rfl
theorem decoded8 : k0_pay49 (k0_pay46 v) (k0_pay47 v) (FloatOps.ofBits .f32 0xC7600000#32) = groupDecoded v := rfl
theorem scale9 : k0_pay51 v = groupScale v := rfl
theorem codes9 : k0_pay52 v (k0_pay50 v) = groupCodes v := rfl
theorem decoded9 : k0_pay53 v (k0_pay50 v) (k0_pay51 v) = groupDecoded v := rfl
theorem scale10 : k0_pay56 (k0_pay54 v) 1#32 = groupScale v := rfl
theorem codes10 : k0_pay57 v (k0_pay54 v) 1#32 = groupCodes v := rfl
theorem decoded10 : k0_pay58 v (k0_pay54 v) 1#32 = groupDecoded v := rfl
theorem scale11 : k0_pay61 (k0_pay59 v) = groupScale v := rfl
theorem codes11 : k0_pay62 v (k0_pay59 v) = groupCodes v := rfl
theorem decoded11 : k0_pay65 (k0_pay63 v (k0_pay59 v)) (k0_pay64 (k0_pay59 v)) = groupDecoded v := rfl
theorem scale12 : k0_pay67 v = groupScale v := rfl
theorem codes12 : k0_pay69 (k0_pay68 v) (FloatOps.ofBits .f32 0xC7600000#32) = groupCodes v := rfl
theorem decoded12 : k0_pay70 (k0_pay67 v) (k0_pay68 v) (FloatOps.ofBits .f32 0xC7600000#32) = groupDecoded v := rfl
theorem scale13 : k0_pay72 v = groupScale v := rfl
theorem codes13 : k0_pay73 v (k0_pay71 v) = groupCodes v := rfl
theorem decoded13 : k0_pay74 v (k0_pay71 v) (k0_pay72 v) = groupDecoded v := rfl
theorem scale14 : k0_pay77 (k0_pay75 v) 1#32 = groupScale v := rfl
theorem codes14 : k0_pay78 v (k0_pay75 v) 1#32 = groupCodes v := rfl
theorem decoded14 : k0_pay79 v (k0_pay75 v) 1#32 = groupDecoded v := rfl
theorem scale15 : k0_pay82 (k0_pay80 v) = groupScale v := rfl
theorem codes15 : k0_pay83 v (k0_pay80 v) = groupCodes v := rfl
theorem decoded15 : k0_pay86 (k0_pay84 v (k0_pay80 v)) (k0_pay85 (k0_pay80 v)) = groupDecoded v := rfl
theorem scale16 : k0_pay88 v = groupScale v := rfl
theorem codes16 : k0_pay90 (k0_pay89 v) (FloatOps.ofBits .f32 0xC7600000#32) = groupCodes v := rfl
theorem decoded16 : k0_pay91 (k0_pay88 v) (k0_pay89 v) (FloatOps.ofBits .f32 0xC7600000#32) = groupDecoded v := rfl
theorem scale17 : k0_pay93 v = groupScale v := rfl
theorem codes17 : k0_pay94 v (k0_pay92 v) = groupCodes v := rfl
theorem decoded17 : k0_pay95 v (k0_pay92 v) (k0_pay93 v) = groupDecoded v := rfl
theorem scale18 : k0_pay98 (k0_pay96 v) 1#32 = groupScale v := rfl
theorem codes18 : k0_pay99 v (k0_pay96 v) 1#32 = groupCodes v := rfl
theorem decoded18 : k0_pay100 v (k0_pay96 v) 1#32 = groupDecoded v := rfl
theorem scale19 : k0_pay103 (k0_pay101 v) = groupScale v := rfl
theorem codes19 : k0_pay104 v (k0_pay101 v) = groupCodes v := rfl
theorem decoded19 : k0_pay107 (k0_pay105 v (k0_pay101 v)) (k0_pay106 (k0_pay101 v)) = groupDecoded v := rfl
theorem scale20 : k0_pay109 v = groupScale v := rfl
theorem codes20 : k0_pay111 (k0_pay110 v) (FloatOps.ofBits .f32 0xC7600000#32) = groupCodes v := rfl
theorem decoded20 : k0_pay112 (k0_pay109 v) (k0_pay110 v) (FloatOps.ofBits .f32 0xC7600000#32) = groupDecoded v := rfl
theorem scale21 : k0_pay114 v = groupScale v := rfl
theorem codes21 : k0_pay115 v (k0_pay113 v) = groupCodes v := rfl
theorem decoded21 : k0_pay116 v (k0_pay113 v) (k0_pay114 v) = groupDecoded v := rfl
theorem scale22 : k0_pay119 (k0_pay117 v) 1#32 = groupScale v := rfl
theorem codes22 : k0_pay120 v (k0_pay117 v) 1#32 = groupCodes v := rfl
theorem decoded22 : k0_pay121 v (k0_pay117 v) 1#32 = groupDecoded v := rfl
theorem scale23 : k0_pay124 (k0_pay122 v) = groupScale v := rfl
theorem codes23 : k0_pay125 v (k0_pay122 v) = groupCodes v := rfl
theorem decoded23 : k0_pay128 (k0_pay126 v (k0_pay122 v)) (k0_pay127 (k0_pay122 v)) = groupDecoded v := rfl
theorem scale24 : k0_pay130 v = groupScale v := rfl
theorem codes24 : k0_pay132 (k0_pay131 v) (FloatOps.ofBits .f32 0xC7600000#32) = groupCodes v := rfl
theorem decoded24 : k0_pay133 (k0_pay130 v) (k0_pay131 v) (FloatOps.ofBits .f32 0xC7600000#32) = groupDecoded v := rfl
theorem scale25 : k0_pay135 v = groupScale v := rfl
theorem codes25 : k0_pay136 v (k0_pay134 v) = groupCodes v := rfl
theorem decoded25 : k0_pay137 v (k0_pay134 v) (k0_pay135 v) = groupDecoded v := rfl
theorem scale26 : k0_pay140 (k0_pay138 v) 1#32 = groupScale v := rfl
theorem codes26 : k0_pay141 v (k0_pay138 v) 1#32 = groupCodes v := rfl
theorem decoded26 : k0_pay142 v (k0_pay138 v) 1#32 = groupDecoded v := rfl
theorem scale27 : k0_pay145 (k0_pay143 v) = groupScale v := rfl
theorem codes27 : k0_pay146 v (k0_pay143 v) = groupCodes v := rfl
theorem decoded27 : k0_pay149 (k0_pay147 v (k0_pay143 v)) (k0_pay148 (k0_pay143 v)) = groupDecoded v := rfl
theorem scale28 : k0_pay151 v = groupScale v := rfl
theorem codes28 : k0_pay153 (k0_pay152 v) (FloatOps.ofBits .f32 0xC7600000#32) = groupCodes v := rfl
theorem decoded28 : k0_pay154 (k0_pay151 v) (k0_pay152 v) (FloatOps.ofBits .f32 0xC7600000#32) = groupDecoded v := rfl
theorem scale29 : k0_pay156 v = groupScale v := rfl
theorem codes29 : k0_pay157 v (k0_pay155 v) = groupCodes v := rfl
theorem decoded29 : k0_pay158 v (k0_pay155 v) (k0_pay156 v) = groupDecoded v := rfl
theorem scale30 : k0_pay161 (k0_pay159 v) 1#32 = groupScale v := rfl
theorem codes30 : k0_pay162 v (k0_pay159 v) 1#32 = groupCodes v := rfl
theorem decoded30 : k0_pay163 v (k0_pay159 v) 1#32 = groupDecoded v := rfl
theorem scale31 : k0_pay166 (k0_pay164 v) = groupScale v := rfl
theorem codes31 : k0_pay167 v (k0_pay164 v) = groupCodes v := rfl
theorem decoded31 : k0_pay170 (k0_pay168 v (k0_pay164 v)) (k0_pay169 (k0_pay164 v)) = groupDecoded v := rfl
theorem scale32 : k0_pay172 v = groupScale v := rfl
theorem codes32 : k0_pay174 (k0_pay173 v) (FloatOps.ofBits .f32 0xC7600000#32) = groupCodes v := rfl
theorem decoded32 : k0_pay175 (k0_pay172 v) (k0_pay173 v) (FloatOps.ofBits .f32 0xC7600000#32) = groupDecoded v := rfl
theorem scale33 : k0_pay177 v = groupScale v := rfl
theorem codes33 : k0_pay178 v (k0_pay176 v) = groupCodes v := rfl
theorem decoded33 : k0_pay179 v (k0_pay176 v) (k0_pay177 v) = groupDecoded v := rfl
theorem scale34 : k0_pay182 (k0_pay180 v) 1#32 = groupScale v := rfl
theorem codes34 : k0_pay183 v (k0_pay180 v) 1#32 = groupCodes v := rfl
theorem decoded34 : k0_pay184 v (k0_pay180 v) 1#32 = groupDecoded v := rfl
theorem scale35 : k0_pay187 (k0_pay185 v) = groupScale v := rfl
theorem codes35 : k0_pay188 v (k0_pay185 v) = groupCodes v := rfl
theorem decoded35 : k0_pay191 (k0_pay189 v (k0_pay185 v)) (k0_pay190 (k0_pay185 v)) = groupDecoded v := rfl
theorem scale36 : k0_pay193 v = groupScale v := rfl
theorem codes36 : k0_pay195 (k0_pay194 v) (FloatOps.ofBits .f32 0xC7600000#32) = groupCodes v := rfl
theorem decoded36 : k0_pay196 (k0_pay193 v) (k0_pay194 v) (FloatOps.ofBits .f32 0xC7600000#32) = groupDecoded v := rfl
theorem scale37 : k0_pay198 v = groupScale v := rfl
theorem codes37 : k0_pay199 v (k0_pay197 v) = groupCodes v := rfl
theorem decoded37 : k0_pay200 v (k0_pay197 v) (k0_pay198 v) = groupDecoded v := rfl
theorem scale38 : k0_pay203 (k0_pay201 v) 1#32 = groupScale v := rfl
theorem codes38 : k0_pay204 v (k0_pay201 v) 1#32 = groupCodes v := rfl
theorem decoded38 : k0_pay205 v (k0_pay201 v) 1#32 = groupDecoded v := rfl
theorem scale39 : k0_pay208 (k0_pay206 v) = groupScale v := rfl
theorem codes39 : k0_pay209 v (k0_pay206 v) = groupCodes v := rfl
theorem decoded39 : k0_pay212 (k0_pay210 v (k0_pay206 v)) (k0_pay211 (k0_pay206 v)) = groupDecoded v := rfl
theorem scale40 : k0_pay214 v = groupScale v := rfl
theorem codes40 : k0_pay216 (k0_pay215 v) (FloatOps.ofBits .f32 0xC7600000#32) = groupCodes v := rfl
theorem decoded40 : k0_pay217 (k0_pay214 v) (k0_pay215 v) (FloatOps.ofBits .f32 0xC7600000#32) = groupDecoded v := rfl
theorem scale41 : k0_pay219 v = groupScale v := rfl
theorem codes41 : k0_pay220 v (k0_pay218 v) = groupCodes v := rfl
theorem decoded41 : k0_pay221 v (k0_pay218 v) (k0_pay219 v) = groupDecoded v := rfl
theorem scale42 : k0_pay224 (k0_pay222 v) 1#32 = groupScale v := rfl
theorem codes42 : k0_pay225 v (k0_pay222 v) 1#32 = groupCodes v := rfl
theorem decoded42 : k0_pay226 v (k0_pay222 v) 1#32 = groupDecoded v := rfl
theorem scale43 : k0_pay229 (k0_pay227 v) = groupScale v := rfl
theorem codes43 : k0_pay230 v (k0_pay227 v) = groupCodes v := rfl
theorem decoded43 : k0_pay233 (k0_pay231 v (k0_pay227 v)) (k0_pay232 (k0_pay227 v)) = groupDecoded v := rfl
theorem scale44 : k0_pay235 v = groupScale v := rfl
theorem codes44 : k0_pay237 (k0_pay236 v) (FloatOps.ofBits .f32 0xC7600000#32) = groupCodes v := rfl
theorem decoded44 : k0_pay238 (k0_pay235 v) (k0_pay236 v) (FloatOps.ofBits .f32 0xC7600000#32) = groupDecoded v := rfl
theorem scale45 : k0_pay240 v = groupScale v := rfl
theorem codes45 : k0_pay241 v (k0_pay239 v) = groupCodes v := rfl
theorem decoded45 : k0_pay242 v (k0_pay239 v) (k0_pay240 v) = groupDecoded v := rfl
theorem scale46 : k0_pay245 (k0_pay243 v) 1#32 = groupScale v := rfl
theorem codes46 : k0_pay246 v (k0_pay243 v) 1#32 = groupCodes v := rfl
theorem decoded46 : k0_pay247 v (k0_pay243 v) 1#32 = groupDecoded v := rfl
theorem scale47 : k0_pay250 (k0_pay248 v) = groupScale v := rfl
theorem codes47 : k0_pay251 v (k0_pay248 v) = groupCodes v := rfl
theorem decoded47 : k0_pay254 (k0_pay252 v (k0_pay248 v)) (k0_pay253 (k0_pay248 v)) = groupDecoded v := rfl
theorem scale48 : k0_pay256 v = groupScale v := rfl
theorem codes48 : k0_pay258 (k0_pay257 v) (FloatOps.ofBits .f32 0xC7600000#32) = groupCodes v := rfl
theorem decoded48 : k0_pay259 (k0_pay256 v) (k0_pay257 v) (FloatOps.ofBits .f32 0xC7600000#32) = groupDecoded v := rfl
theorem scale49 : k0_pay261 v = groupScale v := rfl
theorem codes49 : k0_pay262 v (k0_pay260 v) = groupCodes v := rfl
theorem decoded49 : k0_pay263 v (k0_pay260 v) (k0_pay261 v) = groupDecoded v := rfl
theorem scale50 : k0_pay266 (k0_pay264 v) 1#32 = groupScale v := rfl
theorem codes50 : k0_pay267 v (k0_pay264 v) 1#32 = groupCodes v := rfl
theorem decoded50 : k0_pay268 v (k0_pay264 v) 1#32 = groupDecoded v := rfl
theorem scale51 : k0_pay271 (k0_pay269 v) = groupScale v := rfl
theorem codes51 : k0_pay272 v (k0_pay269 v) = groupCodes v := rfl
theorem decoded51 : k0_pay275 (k0_pay273 v (k0_pay269 v)) (k0_pay274 (k0_pay269 v)) = groupDecoded v := rfl
theorem scale52 : k0_pay277 v = groupScale v := rfl
theorem codes52 : k0_pay279 (k0_pay278 v) (FloatOps.ofBits .f32 0xC7600000#32) = groupCodes v := rfl
theorem decoded52 : k0_pay280 (k0_pay277 v) (k0_pay278 v) (FloatOps.ofBits .f32 0xC7600000#32) = groupDecoded v := rfl
theorem scale53 : k0_pay282 v = groupScale v := rfl
theorem codes53 : k0_pay283 v (k0_pay281 v) = groupCodes v := rfl
theorem decoded53 : k0_pay284 v (k0_pay281 v) (k0_pay282 v) = groupDecoded v := rfl
theorem scale54 : k0_pay287 (k0_pay285 v) 1#32 = groupScale v := rfl
theorem codes54 : k0_pay288 v (k0_pay285 v) 1#32 = groupCodes v := rfl
theorem decoded54 : k0_pay289 v (k0_pay285 v) 1#32 = groupDecoded v := rfl
theorem scale55 : k0_pay292 (k0_pay290 v) = groupScale v := rfl
theorem codes55 : k0_pay293 v (k0_pay290 v) = groupCodes v := rfl
theorem decoded55 : k0_pay296 (k0_pay294 v (k0_pay290 v)) (k0_pay295 (k0_pay290 v)) = groupDecoded v := rfl
theorem scale56 : k0_pay298 v = groupScale v := rfl
theorem codes56 : k0_pay300 (k0_pay299 v) (FloatOps.ofBits .f32 0xC7600000#32) = groupCodes v := rfl
theorem decoded56 : k0_pay301 (k0_pay298 v) (k0_pay299 v) (FloatOps.ofBits .f32 0xC7600000#32) = groupDecoded v := rfl
theorem scale57 : k0_pay303 v = groupScale v := rfl
theorem codes57 : k0_pay304 v (k0_pay302 v) = groupCodes v := rfl
theorem decoded57 : k0_pay305 v (k0_pay302 v) (k0_pay303 v) = groupDecoded v := rfl
theorem scale58 : k0_pay308 (k0_pay306 v) 1#32 = groupScale v := rfl
theorem codes58 : k0_pay309 v (k0_pay306 v) 1#32 = groupCodes v := rfl
theorem decoded58 : k0_pay310 v (k0_pay306 v) 1#32 = groupDecoded v := rfl
theorem scale59 : k0_pay313 (k0_pay311 v) = groupScale v := rfl
theorem codes59 : k0_pay314 v (k0_pay311 v) = groupCodes v := rfl
theorem decoded59 : k0_pay317 (k0_pay315 v (k0_pay311 v)) (k0_pay316 (k0_pay311 v)) = groupDecoded v := rfl
end

/-- The 60 scale rows make up the scales of the block. -/
theorem canon_scales (B : Vec Ideal S1920x512 .bf16) :
    View.canon (Val := Elt Ideal)
     [⟨Rect.unit (s := S60x512) ![59, 0] ![1, 512] inb_S60x512_S1x512_59_0,
        k0_pay313 (F := Ideal) (k0_pay311 (F := Ideal) (View.ld B (Rect.unit ![1888, 0] ![32, 512] inb_S1920x512_S32x512_1888_0)))⟩,
      ⟨Rect.unit (s := S60x512) ![58, 0] ![1, 512] inb_S60x512_S1x512_58_0,
        k0_pay308 (F := Ideal) (k0_pay306 (F := Ideal) (View.ld B (Rect.unit ![1856, 0] ![32, 512] inb_S1920x512_S32x512_1856_0))) 1#32⟩,
      ⟨Rect.unit (s := S60x512) ![57, 0] ![1, 512] inb_S60x512_S1x512_57_0,
        k0_pay303 (F := Ideal) (View.ld B (Rect.unit ![1824, 0] ![32, 512] inb_S1920x512_S32x512_1824_0))⟩,
      ⟨Rect.unit (s := S60x512) ![56, 0] ![1, 512] inb_S60x512_S1x512_56_0,
        k0_pay298 (F := Ideal) (View.ld B (Rect.unit ![1792, 0] ![32, 512] inb_S1920x512_S32x512_1792_0))⟩,
      ⟨Rect.unit (s := S60x512) ![55, 0] ![1, 512] inb_S60x512_S1x512_55_0,
        k0_pay292 (F := Ideal) (k0_pay290 (F := Ideal) (View.ld B (Rect.unit ![1760, 0] ![32, 512] inb_S1920x512_S32x512_1760_0)))⟩,
      ⟨Rect.unit (s := S60x512) ![54, 0] ![1, 512] inb_S60x512_S1x512_54_0,
        k0_pay287 (F := Ideal) (k0_pay285 (F := Ideal) (View.ld B (Rect.unit ![1728, 0] ![32, 512] inb_S1920x512_S32x512_1728_0))) 1#32⟩,
      ⟨Rect.unit (s := S60x512) ![53, 0] ![1, 512] inb_S60x512_S1x512_53_0,
        k0_pay282 (F := Ideal) (View.ld B (Rect.unit ![1696, 0] ![32, 512] inb_S1920x512_S32x512_1696_0))⟩,
      ⟨Rect.unit (s := S60x512) ![52, 0] ![1, 512] inb_S60x512_S1x512_52_0,
        k0_pay277 (F := Ideal) (View.ld B (Rect.unit ![1664, 0] ![32, 512] inb_S1920x512_S32x512_1664_0))⟩,
      ⟨Rect.unit (s := S60x512) ![51, 0] ![1, 512] inb_S60x512_S1x512_51_0,
        k0_pay271 (F := Ideal) (k0_pay269 (F := Ideal) (View.ld B (Rect.unit ![1632, 0] ![32, 512] inb_S1920x512_S32x512_1632_0)))⟩,
      ⟨Rect.unit (s := S60x512) ![50, 0] ![1, 512] inb_S60x512_S1x512_50_0,
        k0_pay266 (F := Ideal) (k0_pay264 (F := Ideal) (View.ld B (Rect.unit ![1600, 0] ![32, 512] inb_S1920x512_S32x512_1600_0))) 1#32⟩,
      ⟨Rect.unit (s := S60x512) ![49, 0] ![1, 512] inb_S60x512_S1x512_49_0,
        k0_pay261 (F := Ideal) (View.ld B (Rect.unit ![1568, 0] ![32, 512] inb_S1920x512_S32x512_1568_0))⟩,
      ⟨Rect.unit (s := S60x512) ![48, 0] ![1, 512] inb_S60x512_S1x512_48_0,
        k0_pay256 (F := Ideal) (View.ld B (Rect.unit ![1536, 0] ![32, 512] inb_S1920x512_S32x512_1536_0))⟩,
      ⟨Rect.unit (s := S60x512) ![47, 0] ![1, 512] inb_S60x512_S1x512_47_0,
        k0_pay250 (F := Ideal) (k0_pay248 (F := Ideal) (View.ld B (Rect.unit ![1504, 0] ![32, 512] inb_S1920x512_S32x512_1504_0)))⟩,
      ⟨Rect.unit (s := S60x512) ![46, 0] ![1, 512] inb_S60x512_S1x512_46_0,
        k0_pay245 (F := Ideal) (k0_pay243 (F := Ideal) (View.ld B (Rect.unit ![1472, 0] ![32, 512] inb_S1920x512_S32x512_1472_0))) 1#32⟩,
      ⟨Rect.unit (s := S60x512) ![45, 0] ![1, 512] inb_S60x512_S1x512_45_0,
        k0_pay240 (F := Ideal) (View.ld B (Rect.unit ![1440, 0] ![32, 512] inb_S1920x512_S32x512_1440_0))⟩,
      ⟨Rect.unit (s := S60x512) ![44, 0] ![1, 512] inb_S60x512_S1x512_44_0,
        k0_pay235 (F := Ideal) (View.ld B (Rect.unit ![1408, 0] ![32, 512] inb_S1920x512_S32x512_1408_0))⟩,
      ⟨Rect.unit (s := S60x512) ![43, 0] ![1, 512] inb_S60x512_S1x512_43_0,
        k0_pay229 (F := Ideal) (k0_pay227 (F := Ideal) (View.ld B (Rect.unit ![1376, 0] ![32, 512] inb_S1920x512_S32x512_1376_0)))⟩,
      ⟨Rect.unit (s := S60x512) ![42, 0] ![1, 512] inb_S60x512_S1x512_42_0,
        k0_pay224 (F := Ideal) (k0_pay222 (F := Ideal) (View.ld B (Rect.unit ![1344, 0] ![32, 512] inb_S1920x512_S32x512_1344_0))) 1#32⟩,
      ⟨Rect.unit (s := S60x512) ![41, 0] ![1, 512] inb_S60x512_S1x512_41_0,
        k0_pay219 (F := Ideal) (View.ld B (Rect.unit ![1312, 0] ![32, 512] inb_S1920x512_S32x512_1312_0))⟩,
      ⟨Rect.unit (s := S60x512) ![40, 0] ![1, 512] inb_S60x512_S1x512_40_0,
        k0_pay214 (F := Ideal) (View.ld B (Rect.unit ![1280, 0] ![32, 512] inb_S1920x512_S32x512_1280_0))⟩,
      ⟨Rect.unit (s := S60x512) ![39, 0] ![1, 512] inb_S60x512_S1x512_39_0,
        k0_pay208 (F := Ideal) (k0_pay206 (F := Ideal) (View.ld B (Rect.unit ![1248, 0] ![32, 512] inb_S1920x512_S32x512_1248_0)))⟩,
      ⟨Rect.unit (s := S60x512) ![38, 0] ![1, 512] inb_S60x512_S1x512_38_0,
        k0_pay203 (F := Ideal) (k0_pay201 (F := Ideal) (View.ld B (Rect.unit ![1216, 0] ![32, 512] inb_S1920x512_S32x512_1216_0))) 1#32⟩,
      ⟨Rect.unit (s := S60x512) ![37, 0] ![1, 512] inb_S60x512_S1x512_37_0,
        k0_pay198 (F := Ideal) (View.ld B (Rect.unit ![1184, 0] ![32, 512] inb_S1920x512_S32x512_1184_0))⟩,
      ⟨Rect.unit (s := S60x512) ![36, 0] ![1, 512] inb_S60x512_S1x512_36_0,
        k0_pay193 (F := Ideal) (View.ld B (Rect.unit ![1152, 0] ![32, 512] inb_S1920x512_S32x512_1152_0))⟩,
      ⟨Rect.unit (s := S60x512) ![35, 0] ![1, 512] inb_S60x512_S1x512_35_0,
        k0_pay187 (F := Ideal) (k0_pay185 (F := Ideal) (View.ld B (Rect.unit ![1120, 0] ![32, 512] inb_S1920x512_S32x512_1120_0)))⟩,
      ⟨Rect.unit (s := S60x512) ![34, 0] ![1, 512] inb_S60x512_S1x512_34_0,
        k0_pay182 (F := Ideal) (k0_pay180 (F := Ideal) (View.ld B (Rect.unit ![1088, 0] ![32, 512] inb_S1920x512_S32x512_1088_0))) 1#32⟩,
      ⟨Rect.unit (s := S60x512) ![33, 0] ![1, 512] inb_S60x512_S1x512_33_0,
        k0_pay177 (F := Ideal) (View.ld B (Rect.unit ![1056, 0] ![32, 512] inb_S1920x512_S32x512_1056_0))⟩,
      ⟨Rect.unit (s := S60x512) ![32, 0] ![1, 512] inb_S60x512_S1x512_32_0,
        k0_pay172 (F := Ideal) (View.ld B (Rect.unit ![1024, 0] ![32, 512] inb_S1920x512_S32x512_1024_0))⟩,
      ⟨Rect.unit (s := S60x512) ![31, 0] ![1, 512] inb_S60x512_S1x512_31_0,
        k0_pay166 (F := Ideal) (k0_pay164 (F := Ideal) (View.ld B (Rect.unit ![992, 0] ![32, 512] inb_S1920x512_S32x512_992_0)))⟩,
      ⟨Rect.unit (s := S60x512) ![30, 0] ![1, 512] inb_S60x512_S1x512_30_0,
        k0_pay161 (F := Ideal) (k0_pay159 (F := Ideal) (View.ld B (Rect.unit ![960, 0] ![32, 512] inb_S1920x512_S32x512_960_0))) 1#32⟩,
      ⟨Rect.unit (s := S60x512) ![29, 0] ![1, 512] inb_S60x512_S1x512_29_0,
        k0_pay156 (F := Ideal) (View.ld B (Rect.unit ![928, 0] ![32, 512] inb_S1920x512_S32x512_928_0))⟩,
      ⟨Rect.unit (s := S60x512) ![28, 0] ![1, 512] inb_S60x512_S1x512_28_0,
        k0_pay151 (F := Ideal) (View.ld B (Rect.unit ![896, 0] ![32, 512] inb_S1920x512_S32x512_896_0))⟩,
      ⟨Rect.unit (s := S60x512) ![27, 0] ![1, 512] inb_S60x512_S1x512_27_0,
        k0_pay145 (F := Ideal) (k0_pay143 (F := Ideal) (View.ld B (Rect.unit ![864, 0] ![32, 512] inb_S1920x512_S32x512_864_0)))⟩,
      ⟨Rect.unit (s := S60x512) ![26, 0] ![1, 512] inb_S60x512_S1x512_26_0,
        k0_pay140 (F := Ideal) (k0_pay138 (F := Ideal) (View.ld B (Rect.unit ![832, 0] ![32, 512] inb_S1920x512_S32x512_832_0))) 1#32⟩,
      ⟨Rect.unit (s := S60x512) ![25, 0] ![1, 512] inb_S60x512_S1x512_25_0,
        k0_pay135 (F := Ideal) (View.ld B (Rect.unit ![800, 0] ![32, 512] inb_S1920x512_S32x512_800_0))⟩,
      ⟨Rect.unit (s := S60x512) ![24, 0] ![1, 512] inb_S60x512_S1x512_24_0,
        k0_pay130 (F := Ideal) (View.ld B (Rect.unit ![768, 0] ![32, 512] inb_S1920x512_S32x512_768_0))⟩,
      ⟨Rect.unit (s := S60x512) ![23, 0] ![1, 512] inb_S60x512_S1x512_23_0,
        k0_pay124 (F := Ideal) (k0_pay122 (F := Ideal) (View.ld B (Rect.unit ![736, 0] ![32, 512] inb_S1920x512_S32x512_736_0)))⟩,
      ⟨Rect.unit (s := S60x512) ![22, 0] ![1, 512] inb_S60x512_S1x512_22_0,
        k0_pay119 (F := Ideal) (k0_pay117 (F := Ideal) (View.ld B (Rect.unit ![704, 0] ![32, 512] inb_S1920x512_S32x512_704_0))) 1#32⟩,
      ⟨Rect.unit (s := S60x512) ![21, 0] ![1, 512] inb_S60x512_S1x512_21_0,
        k0_pay114 (F := Ideal) (View.ld B (Rect.unit ![672, 0] ![32, 512] inb_S1920x512_S32x512_672_0))⟩,
      ⟨Rect.unit (s := S60x512) ![20, 0] ![1, 512] inb_S60x512_S1x512_20_0,
        k0_pay109 (F := Ideal) (View.ld B (Rect.unit ![640, 0] ![32, 512] inb_S1920x512_S32x512_640_0))⟩,
      ⟨Rect.unit (s := S60x512) ![19, 0] ![1, 512] inb_S60x512_S1x512_19_0,
        k0_pay103 (F := Ideal) (k0_pay101 (F := Ideal) (View.ld B (Rect.unit ![608, 0] ![32, 512] inb_S1920x512_S32x512_608_0)))⟩,
      ⟨Rect.unit (s := S60x512) ![18, 0] ![1, 512] inb_S60x512_S1x512_18_0,
        k0_pay98 (F := Ideal) (k0_pay96 (F := Ideal) (View.ld B (Rect.unit ![576, 0] ![32, 512] inb_S1920x512_S32x512_576_0))) 1#32⟩,
      ⟨Rect.unit (s := S60x512) ![17, 0] ![1, 512] inb_S60x512_S1x512_17_0,
        k0_pay93 (F := Ideal) (View.ld B (Rect.unit ![544, 0] ![32, 512] inb_S1920x512_S32x512_544_0))⟩,
      ⟨Rect.unit (s := S60x512) ![16, 0] ![1, 512] inb_S60x512_S1x512_16_0,
        k0_pay88 (F := Ideal) (View.ld B (Rect.unit ![512, 0] ![32, 512] inb_S1920x512_S32x512_512_0))⟩,
      ⟨Rect.unit (s := S60x512) ![15, 0] ![1, 512] inb_S60x512_S1x512_15_0,
        k0_pay82 (F := Ideal) (k0_pay80 (F := Ideal) (View.ld B (Rect.unit ![480, 0] ![32, 512] inb_S1920x512_S32x512_480_0)))⟩,
      ⟨Rect.unit (s := S60x512) ![14, 0] ![1, 512] inb_S60x512_S1x512_14_0,
        k0_pay77 (F := Ideal) (k0_pay75 (F := Ideal) (View.ld B (Rect.unit ![448, 0] ![32, 512] inb_S1920x512_S32x512_448_0))) 1#32⟩,
      ⟨Rect.unit (s := S60x512) ![13, 0] ![1, 512] inb_S60x512_S1x512_13_0,
        k0_pay72 (F := Ideal) (View.ld B (Rect.unit ![416, 0] ![32, 512] inb_S1920x512_S32x512_416_0))⟩,
      ⟨Rect.unit (s := S60x512) ![12, 0] ![1, 512] inb_S60x512_S1x512_12_0,
        k0_pay67 (F := Ideal) (View.ld B (Rect.unit ![384, 0] ![32, 512] inb_S1920x512_S32x512_384_0))⟩,
      ⟨Rect.unit (s := S60x512) ![11, 0] ![1, 512] inb_S60x512_S1x512_11_0,
        k0_pay61 (F := Ideal) (k0_pay59 (F := Ideal) (View.ld B (Rect.unit ![352, 0] ![32, 512] inb_S1920x512_S32x512_352_0)))⟩,
      ⟨Rect.unit (s := S60x512) ![10, 0] ![1, 512] inb_S60x512_S1x512_10_0,
        k0_pay56 (F := Ideal) (k0_pay54 (F := Ideal) (View.ld B (Rect.unit ![320, 0] ![32, 512] inb_S1920x512_S32x512_320_0))) 1#32⟩,
      ⟨Rect.unit (s := S60x512) ![9, 0] ![1, 512] inb_S60x512_S1x512_9_0,
        k0_pay51 (F := Ideal) (View.ld B (Rect.unit ![288, 0] ![32, 512] inb_S1920x512_S32x512_288_0))⟩,
      ⟨Rect.unit (s := S60x512) ![8, 0] ![1, 512] inb_S60x512_S1x512_8_0,
        k0_pay46 (F := Ideal) (View.ld B (Rect.unit ![256, 0] ![32, 512] inb_S1920x512_S32x512_256_0))⟩,
      ⟨Rect.unit (s := S60x512) ![7, 0] ![1, 512] inb_S60x512_S1x512_7_0,
        k0_pay40 (F := Ideal) (k0_pay38 (F := Ideal) (View.ld B (Rect.unit ![224, 0] ![32, 512] inb_S1920x512_S32x512_224_0)))⟩,
      ⟨Rect.unit (s := S60x512) ![6, 0] ![1, 512] inb_S60x512_S1x512_6_0,
        k0_pay35 (F := Ideal) (k0_pay33 (F := Ideal) (View.ld B (Rect.unit ![192, 0] ![32, 512] inb_S1920x512_S32x512_192_0))) 1#32⟩,
      ⟨Rect.unit (s := S60x512) ![5, 0] ![1, 512] inb_S60x512_S1x512_5_0,
        k0_pay30 (F := Ideal) (View.ld B (Rect.unit ![160, 0] ![32, 512] inb_S1920x512_S32x512_160_0))⟩,
      ⟨Rect.unit (s := S60x512) ![4, 0] ![1, 512] inb_S60x512_S1x512_4_0,
        k0_pay25 (F := Ideal) (View.ld B (Rect.unit ![128, 0] ![32, 512] inb_S1920x512_S32x512_128_0))⟩,
      ⟨Rect.unit (s := S60x512) ![3, 0] ![1, 512] inb_S60x512_S1x512_3_0,
        k0_pay19 (F := Ideal) (k0_pay17 (F := Ideal) (View.ld B (Rect.unit ![96, 0] ![32, 512] inb_S1920x512_S32x512_96_0)))⟩,
      ⟨Rect.unit (s := S60x512) ![2, 0] ![1, 512] inb_S60x512_S1x512_2_0,
        k0_pay14 (F := Ideal) (k0_pay12 (F := Ideal) (View.ld B (Rect.unit ![64, 0] ![32, 512] inb_S1920x512_S32x512_64_0))) 1#32⟩,
      ⟨Rect.unit (s := S60x512) ![1, 0] ![1, 512] inb_S60x512_S1x512_1_0,
        k0_pay9 (F := Ideal) (View.ld B (Rect.unit ![32, 0] ![32, 512] inb_S1920x512_S32x512_32_0))⟩,
      ⟨Rect.unit (s := S60x512) ![0, 0] ![1, 512] inb_S60x512_S1x512_0_0,
        k0_pay4 (F := Ideal) (View.ld B (Rect.unit ![0, 0] ![32, 512] inb_S1920x512_S32x512_0_0))⟩] = blockScales B := by
  funext y
  have hy : (y 0).val < 60 := (y 0).isLt
  refine scale_step (blockScales B) _ _ rfl _ _ _ y (scale_piece B 1888 59 rfl (by decide) _ _ _ (scale59 _)) hy (fun hy => ?_)
  refine scale_step (blockScales B) _ _ rfl _ _ _ y (scale_piece B 1856 58 rfl (by decide) _ _ _ (scale58 _)) hy (fun hy => ?_)
  refine scale_step (blockScales B) _ _ rfl _ _ _ y (scale_piece B 1824 57 rfl (by decide) _ _ _ (scale57 _)) hy (fun hy => ?_)
  refine scale_step (blockScales B) _ _ rfl _ _ _ y (scale_piece B 1792 56 rfl (by decide) _ _ _ (scale56 _)) hy (fun hy => ?_)
  refine scale_step (blockScales B) _ _ rfl _ _ _ y (scale_piece B 1760 55 rfl (by decide) _ _ _ (scale55 _)) hy (fun hy => ?_)
  refine scale_step (blockScales B) _ _ rfl _ _ _ y (scale_piece B 1728 54 rfl (by decide) _ _ _ (scale54 _)) hy (fun hy => ?_)
  refine scale_step (blockScales B) _ _ rfl _ _ _ y (scale_piece B 1696 53 rfl (by decide) _ _ _ (scale53 _)) hy (fun hy => ?_)
  refine scale_step (blockScales B) _ _ rfl _ _ _ y (scale_piece B 1664 52 rfl (by decide) _ _ _ (scale52 _)) hy (fun hy => ?_)
  refine scale_step (blockScales B) _ _ rfl _ _ _ y (scale_piece B 1632 51 rfl (by decide) _ _ _ (scale51 _)) hy (fun hy => ?_)
  refine scale_step (blockScales B) _ _ rfl _ _ _ y (scale_piece B 1600 50 rfl (by decide) _ _ _ (scale50 _)) hy (fun hy => ?_)
  refine scale_step (blockScales B) _ _ rfl _ _ _ y (scale_piece B 1568 49 rfl (by decide) _ _ _ (scale49 _)) hy (fun hy => ?_)
  refine scale_step (blockScales B) _ _ rfl _ _ _ y (scale_piece B 1536 48 rfl (by decide) _ _ _ (scale48 _)) hy (fun hy => ?_)
  refine scale_step (blockScales B) _ _ rfl _ _ _ y (scale_piece B 1504 47 rfl (by decide) _ _ _ (scale47 _)) hy (fun hy => ?_)
  refine scale_step (blockScales B) _ _ rfl _ _ _ y (scale_piece B 1472 46 rfl (by decide) _ _ _ (scale46 _)) hy (fun hy => ?_)
  refine scale_step (blockScales B) _ _ rfl _ _ _ y (scale_piece B 1440 45 rfl (by decide) _ _ _ (scale45 _)) hy (fun hy => ?_)
  refine scale_step (blockScales B) _ _ rfl _ _ _ y (scale_piece B 1408 44 rfl (by decide) _ _ _ (scale44 _)) hy (fun hy => ?_)
  refine scale_step (blockScales B) _ _ rfl _ _ _ y (scale_piece B 1376 43 rfl (by decide) _ _ _ (scale43 _)) hy (fun hy => ?_)
  refine scale_step (blockScales B) _ _ rfl _ _ _ y (scale_piece B 1344 42 rfl (by decide) _ _ _ (scale42 _)) hy (fun hy => ?_)
  refine scale_step (blockScales B) _ _ rfl _ _ _ y (scale_piece B 1312 41 rfl (by decide) _ _ _ (scale41 _)) hy (fun hy => ?_)
  refine scale_step (blockScales B) _ _ rfl _ _ _ y (scale_piece B 1280 40 rfl (by decide) _ _ _ (scale40 _)) hy (fun hy => ?_)
  refine scale_step (blockScales B) _ _ rfl _ _ _ y (scale_piece B 1248 39 rfl (by decide) _ _ _ (scale39 _)) hy (fun hy => ?_)
  refine scale_step (blockScales B) _ _ rfl _ _ _ y (scale_piece B 1216 38 rfl (by decide) _ _ _ (scale38 _)) hy (fun hy => ?_)
  refine scale_step (blockScales B) _ _ rfl _ _ _ y (scale_piece B 1184 37 rfl (by decide) _ _ _ (scale37 _)) hy (fun hy => ?_)
  refine scale_step (blockScales B) _ _ rfl _ _ _ y (scale_piece B 1152 36 rfl (by decide) _ _ _ (scale36 _)) hy (fun hy => ?_)
  refine scale_step (blockScales B) _ _ rfl _ _ _ y (scale_piece B 1120 35 rfl (by decide) _ _ _ (scale35 _)) hy (fun hy => ?_)
  refine scale_step (blockScales B) _ _ rfl _ _ _ y (scale_piece B 1088 34 rfl (by decide) _ _ _ (scale34 _)) hy (fun hy => ?_)
  refine scale_step (blockScales B) _ _ rfl _ _ _ y (scale_piece B 1056 33 rfl (by decide) _ _ _ (scale33 _)) hy (fun hy => ?_)
  refine scale_step (blockScales B) _ _ rfl _ _ _ y (scale_piece B 1024 32 rfl (by decide) _ _ _ (scale32 _)) hy (fun hy => ?_)
  refine scale_step (blockScales B) _ _ rfl _ _ _ y (scale_piece B 992 31 rfl (by decide) _ _ _ (scale31 _)) hy (fun hy => ?_)
  refine scale_step (blockScales B) _ _ rfl _ _ _ y (scale_piece B 960 30 rfl (by decide) _ _ _ (scale30 _)) hy (fun hy => ?_)
  refine scale_step (blockScales B) _ _ rfl _ _ _ y (scale_piece B 928 29 rfl (by decide) _ _ _ (scale29 _)) hy (fun hy => ?_)
  refine scale_step (blockScales B) _ _ rfl _ _ _ y (scale_piece B 896 28 rfl (by decide) _ _ _ (scale28 _)) hy (fun hy => ?_)
  refine scale_step (blockScales B) _ _ rfl _ _ _ y (scale_piece B 864 27 rfl (by decide) _ _ _ (scale27 _)) hy (fun hy => ?_)
  refine scale_step (blockScales B) _ _ rfl _ _ _ y (scale_piece B 832 26 rfl (by decide) _ _ _ (scale26 _)) hy (fun hy => ?_)
  refine scale_step (blockScales B) _ _ rfl _ _ _ y (scale_piece B 800 25 rfl (by decide) _ _ _ (scale25 _)) hy (fun hy => ?_)
  refine scale_step (blockScales B) _ _ rfl _ _ _ y (scale_piece B 768 24 rfl (by decide) _ _ _ (scale24 _)) hy (fun hy => ?_)
  refine scale_step (blockScales B) _ _ rfl _ _ _ y (scale_piece B 736 23 rfl (by decide) _ _ _ (scale23 _)) hy (fun hy => ?_)
  refine scale_step (blockScales B) _ _ rfl _ _ _ y (scale_piece B 704 22 rfl (by decide) _ _ _ (scale22 _)) hy (fun hy => ?_)
  refine scale_step (blockScales B) _ _ rfl _ _ _ y (scale_piece B 672 21 rfl (by decide) _ _ _ (scale21 _)) hy (fun hy => ?_)
  refine scale_step (blockScales B) _ _ rfl _ _ _ y (scale_piece B 640 20 rfl (by decide) _ _ _ (scale20 _)) hy (fun hy => ?_)
  refine scale_step (blockScales B) _ _ rfl _ _ _ y (scale_piece B 608 19 rfl (by decide) _ _ _ (scale19 _)) hy (fun hy => ?_)
  refine scale_step (blockScales B) _ _ rfl _ _ _ y (scale_piece B 576 18 rfl (by decide) _ _ _ (scale18 _)) hy (fun hy => ?_)
  refine scale_step (blockScales B) _ _ rfl _ _ _ y (scale_piece B 544 17 rfl (by decide) _ _ _ (scale17 _)) hy (fun hy => ?_)
  refine scale_step (blockScales B) _ _ rfl _ _ _ y (scale_piece B 512 16 rfl (by decide) _ _ _ (scale16 _)) hy (fun hy => ?_)
  refine scale_step (blockScales B) _ _ rfl _ _ _ y (scale_piece B 480 15 rfl (by decide) _ _ _ (scale15 _)) hy (fun hy => ?_)
  refine scale_step (blockScales B) _ _ rfl _ _ _ y (scale_piece B 448 14 rfl (by decide) _ _ _ (scale14 _)) hy (fun hy => ?_)
  refine scale_step (blockScales B) _ _ rfl _ _ _ y (scale_piece B 416 13 rfl (by decide) _ _ _ (scale13 _)) hy (fun hy => ?_)
  refine scale_step (blockScales B) _ _ rfl _ _ _ y (scale_piece B 384 12 rfl (by decide) _ _ _ (scale12 _)) hy (fun hy => ?_)
  refine scale_step (blockScales B) _ _ rfl _ _ _ y (scale_piece B 352 11 rfl (by decide) _ _ _ (scale11 _)) hy (fun hy => ?_)
  refine scale_step (blockScales B) _ _ rfl _ _ _ y (scale_piece B 320 10 rfl (by decide) _ _ _ (scale10 _)) hy (fun hy => ?_)
  refine scale_step (blockScales B) _ _ rfl _ _ _ y (scale_piece B 288 9 rfl (by decide) _ _ _ (scale9 _)) hy (fun hy => ?_)
  refine scale_step (blockScales B) _ _ rfl _ _ _ y (scale_piece B 256 8 rfl (by decide) _ _ _ (scale8 _)) hy (fun hy => ?_)
  refine scale_step (blockScales B) _ _ rfl _ _ _ y (scale_piece B 224 7 rfl (by decide) _ _ _ (scale7 _)) hy (fun hy => ?_)
  refine scale_step (blockScales B) _ _ rfl _ _ _ y (scale_piece B 192 6 rfl (by decide) _ _ _ (scale6 _)) hy (fun hy => ?_)
  refine scale_step (blockScales B) _ _ rfl _ _ _ y (scale_piece B 160 5 rfl (by decide) _ _ _ (scale5 _)) hy (fun hy => ?_)
  refine scale_step (blockScales B) _ _ rfl _ _ _ y (scale_piece B 128 4 rfl (by decide) _ _ _ (scale4 _)) hy (fun hy => ?_)
  refine scale_step (blockScales B) _ _ rfl _ _ _ y (scale_piece B 96 3 rfl (by decide) _ _ _ (scale3 _)) hy (fun hy => ?_)
  refine scale_step (blockScales B) _ _ rfl _ _ _ y (scale_piece B 64 2 rfl (by decide) _ _ _ (scale2 _)) hy (fun hy => ?_)
  refine scale_step (blockScales B) _ _ rfl _ _ _ y (scale_piece B 32 1 rfl (by decide) _ _ _ (scale1 _)) hy (fun hy => ?_)
  refine scale_step (blockScales B) _ _ rfl _ _ _ y (scale_piece B 0 0 rfl (by decide) _ _ _ (scale0 _)) hy (fun hy => ?_)
  exact absurd hy (Nat.not_lt_zero _)

/-- The 60 groups of codes make up the codes of the block. -/
theorem canon_codes (B : Vec Ideal S1920x512 .bf16) :
    View.canon (Val := Elt Ideal)
     [⟨Rect.unit (s := S1920x512) ![1888, 0] ![32, 512] inb_S1920x512_S32x512_1888_0,
        k0_pay314 (F := Ideal) (View.ld B (Rect.unit ![1888, 0] ![32, 512] inb_S1920x512_S32x512_1888_0)) (k0_pay311 (F := Ideal) (View.ld B (Rect.unit ![1888, 0] ![32, 512] inb_S1920x512_S32x512_1888_0)))⟩,
      ⟨Rect.unit (s := S1920x512) ![1856, 0] ![32, 512] inb_S1920x512_S32x512_1856_0,
        k0_pay309 (F := Ideal) (View.ld B (Rect.unit ![1856, 0] ![32, 512] inb_S1920x512_S32x512_1856_0)) (k0_pay306 (F := Ideal) (View.ld B (Rect.unit ![1856, 0] ![32, 512] inb_S1920x512_S32x512_1856_0))) 1#32⟩,
      ⟨Rect.unit (s := S1920x512) ![1824, 0] ![32, 512] inb_S1920x512_S32x512_1824_0,
        k0_pay304 (F := Ideal) (View.ld B (Rect.unit ![1824, 0] ![32, 512] inb_S1920x512_S32x512_1824_0)) (k0_pay302 (F := Ideal) (View.ld B (Rect.unit ![1824, 0] ![32, 512] inb_S1920x512_S32x512_1824_0)))⟩,
      ⟨Rect.unit (s := S1920x512) ![1792, 0] ![32, 512] inb_S1920x512_S32x512_1792_0,
        k0_pay300 (F := Ideal) (k0_pay299 (F := Ideal) (View.ld B (Rect.unit ![1792, 0] ![32, 512] inb_S1920x512_S32x512_1792_0))) (FloatOps.ofBits .f32 0xC7600000#32)⟩,
      ⟨Rect.unit (s := S1920x512) ![1760, 0] ![32, 512] inb_S1920x512_S32x512_1760_0,
        k0_pay293 (F := Ideal) (View.ld B (Rect.unit ![1760, 0] ![32, 512] inb_S1920x512_S32x512_1760_0)) (k0_pay290 (F := Ideal) (View.ld B (Rect.unit ![1760, 0] ![32, 512] inb_S1920x512_S32x512_1760_0)))⟩,
      ⟨Rect.unit (s := S1920x512) ![1728, 0] ![32, 512] inb_S1920x512_S32x512_1728_0,
        k0_pay288 (F := Ideal) (View.ld B (Rect.unit ![1728, 0] ![32, 512] inb_S1920x512_S32x512_1728_0)) (k0_pay285 (F := Ideal) (View.ld B (Rect.unit ![1728, 0] ![32, 512] inb_S1920x512_S32x512_1728_0))) 1#32⟩,
      ⟨Rect.unit (s := S1920x512) ![1696, 0] ![32, 512] inb_S1920x512_S32x512_1696_0,
        k0_pay283 (F := Ideal) (View.ld B (Rect.unit ![1696, 0] ![32, 512] inb_S1920x512_S32x512_1696_0)) (k0_pay281 (F := Ideal) (View.ld B (Rect.unit ![1696, 0] ![32, 512] inb_S1920x512_S32x512_1696_0)))⟩,
      ⟨Rect.unit (s := S1920x512) ![1664, 0] ![32, 512] inb_S1920x512_S32x512_1664_0,
        k0_pay279 (F := Ideal) (k0_pay278 (F := Ideal) (View.ld B (Rect.unit ![1664, 0] ![32, 512] inb_S1920x512_S32x512_1664_0))) (FloatOps.ofBits .f32 0xC7600000#32)⟩,
      ⟨Rect.unit (s := S1920x512) ![1632, 0] ![32, 512] inb_S1920x512_S32x512_1632_0,
        k0_pay272 (F := Ideal) (View.ld B (Rect.unit ![1632, 0] ![32, 512] inb_S1920x512_S32x512_1632_0)) (k0_pay269 (F := Ideal) (View.ld B (Rect.unit ![1632, 0] ![32, 512] inb_S1920x512_S32x512_1632_0)))⟩,
      ⟨Rect.unit (s := S1920x512) ![1600, 0] ![32, 512] inb_S1920x512_S32x512_1600_0,
        k0_pay267 (F := Ideal) (View.ld B (Rect.unit ![1600, 0] ![32, 512] inb_S1920x512_S32x512_1600_0)) (k0_pay264 (F := Ideal) (View.ld B (Rect.unit ![1600, 0] ![32, 512] inb_S1920x512_S32x512_1600_0))) 1#32⟩,
      ⟨Rect.unit (s := S1920x512) ![1568, 0] ![32, 512] inb_S1920x512_S32x512_1568_0,
        k0_pay262 (F := Ideal) (View.ld B (Rect.unit ![1568, 0] ![32, 512] inb_S1920x512_S32x512_1568_0)) (k0_pay260 (F := Ideal) (View.ld B (Rect.unit ![1568, 0] ![32, 512] inb_S1920x512_S32x512_1568_0)))⟩,
      ⟨Rect.unit (s := S1920x512) ![1536, 0] ![32, 512] inb_S1920x512_S32x512_1536_0,
        k0_pay258 (F := Ideal) (k0_pay257 (F := Ideal) (View.ld B (Rect.unit ![1536, 0] ![32, 512] inb_S1920x512_S32x512_1536_0))) (FloatOps.ofBits .f32 0xC7600000#32)⟩,
      ⟨Rect.unit (s := S1920x512) ![1504, 0] ![32, 512] inb_S1920x512_S32x512_1504_0,
        k0_pay251 (F := Ideal) (View.ld B (Rect.unit ![1504, 0] ![32, 512] inb_S1920x512_S32x512_1504_0)) (k0_pay248 (F := Ideal) (View.ld B (Rect.unit ![1504, 0] ![32, 512] inb_S1920x512_S32x512_1504_0)))⟩,
      ⟨Rect.unit (s := S1920x512) ![1472, 0] ![32, 512] inb_S1920x512_S32x512_1472_0,
        k0_pay246 (F := Ideal) (View.ld B (Rect.unit ![1472, 0] ![32, 512] inb_S1920x512_S32x512_1472_0)) (k0_pay243 (F := Ideal) (View.ld B (Rect.unit ![1472, 0] ![32, 512] inb_S1920x512_S32x512_1472_0))) 1#32⟩,
      ⟨Rect.unit (s := S1920x512) ![1440, 0] ![32, 512] inb_S1920x512_S32x512_1440_0,
        k0_pay241 (F := Ideal) (View.ld B (Rect.unit ![1440, 0] ![32, 512] inb_S1920x512_S32x512_1440_0)) (k0_pay239 (F := Ideal) (View.ld B (Rect.unit ![1440, 0] ![32, 512] inb_S1920x512_S32x512_1440_0)))⟩,
      ⟨Rect.unit (s := S1920x512) ![1408, 0] ![32, 512] inb_S1920x512_S32x512_1408_0,
        k0_pay237 (F := Ideal) (k0_pay236 (F := Ideal) (View.ld B (Rect.unit ![1408, 0] ![32, 512] inb_S1920x512_S32x512_1408_0))) (FloatOps.ofBits .f32 0xC7600000#32)⟩,
      ⟨Rect.unit (s := S1920x512) ![1376, 0] ![32, 512] inb_S1920x512_S32x512_1376_0,
        k0_pay230 (F := Ideal) (View.ld B (Rect.unit ![1376, 0] ![32, 512] inb_S1920x512_S32x512_1376_0)) (k0_pay227 (F := Ideal) (View.ld B (Rect.unit ![1376, 0] ![32, 512] inb_S1920x512_S32x512_1376_0)))⟩,
      ⟨Rect.unit (s := S1920x512) ![1344, 0] ![32, 512] inb_S1920x512_S32x512_1344_0,
        k0_pay225 (F := Ideal) (View.ld B (Rect.unit ![1344, 0] ![32, 512] inb_S1920x512_S32x512_1344_0)) (k0_pay222 (F := Ideal) (View.ld B (Rect.unit ![1344, 0] ![32, 512] inb_S1920x512_S32x512_1344_0))) 1#32⟩,
      ⟨Rect.unit (s := S1920x512) ![1312, 0] ![32, 512] inb_S1920x512_S32x512_1312_0,
        k0_pay220 (F := Ideal) (View.ld B (Rect.unit ![1312, 0] ![32, 512] inb_S1920x512_S32x512_1312_0)) (k0_pay218 (F := Ideal) (View.ld B (Rect.unit ![1312, 0] ![32, 512] inb_S1920x512_S32x512_1312_0)))⟩,
      ⟨Rect.unit (s := S1920x512) ![1280, 0] ![32, 512] inb_S1920x512_S32x512_1280_0,
        k0_pay216 (F := Ideal) (k0_pay215 (F := Ideal) (View.ld B (Rect.unit ![1280, 0] ![32, 512] inb_S1920x512_S32x512_1280_0))) (FloatOps.ofBits .f32 0xC7600000#32)⟩,
      ⟨Rect.unit (s := S1920x512) ![1248, 0] ![32, 512] inb_S1920x512_S32x512_1248_0,
        k0_pay209 (F := Ideal) (View.ld B (Rect.unit ![1248, 0] ![32, 512] inb_S1920x512_S32x512_1248_0)) (k0_pay206 (F := Ideal) (View.ld B (Rect.unit ![1248, 0] ![32, 512] inb_S1920x512_S32x512_1248_0)))⟩,
      ⟨Rect.unit (s := S1920x512) ![1216, 0] ![32, 512] inb_S1920x512_S32x512_1216_0,
        k0_pay204 (F := Ideal) (View.ld B (Rect.unit ![1216, 0] ![32, 512] inb_S1920x512_S32x512_1216_0)) (k0_pay201 (F := Ideal) (View.ld B (Rect.unit ![1216, 0] ![32, 512] inb_S1920x512_S32x512_1216_0))) 1#32⟩,
      ⟨Rect.unit (s := S1920x512) ![1184, 0] ![32, 512] inb_S1920x512_S32x512_1184_0,
        k0_pay199 (F := Ideal) (View.ld B (Rect.unit ![1184, 0] ![32, 512] inb_S1920x512_S32x512_1184_0)) (k0_pay197 (F := Ideal) (View.ld B (Rect.unit ![1184, 0] ![32, 512] inb_S1920x512_S32x512_1184_0)))⟩,
      ⟨Rect.unit (s := S1920x512) ![1152, 0] ![32, 512] inb_S1920x512_S32x512_1152_0,
        k0_pay195 (F := Ideal) (k0_pay194 (F := Ideal) (View.ld B (Rect.unit ![1152, 0] ![32, 512] inb_S1920x512_S32x512_1152_0))) (FloatOps.ofBits .f32 0xC7600000#32)⟩,
      ⟨Rect.unit (s := S1920x512) ![1120, 0] ![32, 512] inb_S1920x512_S32x512_1120_0,
        k0_pay188 (F := Ideal) (View.ld B (Rect.unit ![1120, 0] ![32, 512] inb_S1920x512_S32x512_1120_0)) (k0_pay185 (F := Ideal) (View.ld B (Rect.unit ![1120, 0] ![32, 512] inb_S1920x512_S32x512_1120_0)))⟩,
      ⟨Rect.unit (s := S1920x512) ![1088, 0] ![32, 512] inb_S1920x512_S32x512_1088_0,
        k0_pay183 (F := Ideal) (View.ld B (Rect.unit ![1088, 0] ![32, 512] inb_S1920x512_S32x512_1088_0)) (k0_pay180 (F := Ideal) (View.ld B (Rect.unit ![1088, 0] ![32, 512] inb_S1920x512_S32x512_1088_0))) 1#32⟩,
      ⟨Rect.unit (s := S1920x512) ![1056, 0] ![32, 512] inb_S1920x512_S32x512_1056_0,
        k0_pay178 (F := Ideal) (View.ld B (Rect.unit ![1056, 0] ![32, 512] inb_S1920x512_S32x512_1056_0)) (k0_pay176 (F := Ideal) (View.ld B (Rect.unit ![1056, 0] ![32, 512] inb_S1920x512_S32x512_1056_0)))⟩,
      ⟨Rect.unit (s := S1920x512) ![1024, 0] ![32, 512] inb_S1920x512_S32x512_1024_0,
        k0_pay174 (F := Ideal) (k0_pay173 (F := Ideal) (View.ld B (Rect.unit ![1024, 0] ![32, 512] inb_S1920x512_S32x512_1024_0))) (FloatOps.ofBits .f32 0xC7600000#32)⟩,
      ⟨Rect.unit (s := S1920x512) ![992, 0] ![32, 512] inb_S1920x512_S32x512_992_0,
        k0_pay167 (F := Ideal) (View.ld B (Rect.unit ![992, 0] ![32, 512] inb_S1920x512_S32x512_992_0)) (k0_pay164 (F := Ideal) (View.ld B (Rect.unit ![992, 0] ![32, 512] inb_S1920x512_S32x512_992_0)))⟩,
      ⟨Rect.unit (s := S1920x512) ![960, 0] ![32, 512] inb_S1920x512_S32x512_960_0,
        k0_pay162 (F := Ideal) (View.ld B (Rect.unit ![960, 0] ![32, 512] inb_S1920x512_S32x512_960_0)) (k0_pay159 (F := Ideal) (View.ld B (Rect.unit ![960, 0] ![32, 512] inb_S1920x512_S32x512_960_0))) 1#32⟩,
      ⟨Rect.unit (s := S1920x512) ![928, 0] ![32, 512] inb_S1920x512_S32x512_928_0,
        k0_pay157 (F := Ideal) (View.ld B (Rect.unit ![928, 0] ![32, 512] inb_S1920x512_S32x512_928_0)) (k0_pay155 (F := Ideal) (View.ld B (Rect.unit ![928, 0] ![32, 512] inb_S1920x512_S32x512_928_0)))⟩,
      ⟨Rect.unit (s := S1920x512) ![896, 0] ![32, 512] inb_S1920x512_S32x512_896_0,
        k0_pay153 (F := Ideal) (k0_pay152 (F := Ideal) (View.ld B (Rect.unit ![896, 0] ![32, 512] inb_S1920x512_S32x512_896_0))) (FloatOps.ofBits .f32 0xC7600000#32)⟩,
      ⟨Rect.unit (s := S1920x512) ![864, 0] ![32, 512] inb_S1920x512_S32x512_864_0,
        k0_pay146 (F := Ideal) (View.ld B (Rect.unit ![864, 0] ![32, 512] inb_S1920x512_S32x512_864_0)) (k0_pay143 (F := Ideal) (View.ld B (Rect.unit ![864, 0] ![32, 512] inb_S1920x512_S32x512_864_0)))⟩,
      ⟨Rect.unit (s := S1920x512) ![832, 0] ![32, 512] inb_S1920x512_S32x512_832_0,
        k0_pay141 (F := Ideal) (View.ld B (Rect.unit ![832, 0] ![32, 512] inb_S1920x512_S32x512_832_0)) (k0_pay138 (F := Ideal) (View.ld B (Rect.unit ![832, 0] ![32, 512] inb_S1920x512_S32x512_832_0))) 1#32⟩,
      ⟨Rect.unit (s := S1920x512) ![800, 0] ![32, 512] inb_S1920x512_S32x512_800_0,
        k0_pay136 (F := Ideal) (View.ld B (Rect.unit ![800, 0] ![32, 512] inb_S1920x512_S32x512_800_0)) (k0_pay134 (F := Ideal) (View.ld B (Rect.unit ![800, 0] ![32, 512] inb_S1920x512_S32x512_800_0)))⟩,
      ⟨Rect.unit (s := S1920x512) ![768, 0] ![32, 512] inb_S1920x512_S32x512_768_0,
        k0_pay132 (F := Ideal) (k0_pay131 (F := Ideal) (View.ld B (Rect.unit ![768, 0] ![32, 512] inb_S1920x512_S32x512_768_0))) (FloatOps.ofBits .f32 0xC7600000#32)⟩,
      ⟨Rect.unit (s := S1920x512) ![736, 0] ![32, 512] inb_S1920x512_S32x512_736_0,
        k0_pay125 (F := Ideal) (View.ld B (Rect.unit ![736, 0] ![32, 512] inb_S1920x512_S32x512_736_0)) (k0_pay122 (F := Ideal) (View.ld B (Rect.unit ![736, 0] ![32, 512] inb_S1920x512_S32x512_736_0)))⟩,
      ⟨Rect.unit (s := S1920x512) ![704, 0] ![32, 512] inb_S1920x512_S32x512_704_0,
        k0_pay120 (F := Ideal) (View.ld B (Rect.unit ![704, 0] ![32, 512] inb_S1920x512_S32x512_704_0)) (k0_pay117 (F := Ideal) (View.ld B (Rect.unit ![704, 0] ![32, 512] inb_S1920x512_S32x512_704_0))) 1#32⟩,
      ⟨Rect.unit (s := S1920x512) ![672, 0] ![32, 512] inb_S1920x512_S32x512_672_0,
        k0_pay115 (F := Ideal) (View.ld B (Rect.unit ![672, 0] ![32, 512] inb_S1920x512_S32x512_672_0)) (k0_pay113 (F := Ideal) (View.ld B (Rect.unit ![672, 0] ![32, 512] inb_S1920x512_S32x512_672_0)))⟩,
      ⟨Rect.unit (s := S1920x512) ![640, 0] ![32, 512] inb_S1920x512_S32x512_640_0,
        k0_pay111 (F := Ideal) (k0_pay110 (F := Ideal) (View.ld B (Rect.unit ![640, 0] ![32, 512] inb_S1920x512_S32x512_640_0))) (FloatOps.ofBits .f32 0xC7600000#32)⟩,
      ⟨Rect.unit (s := S1920x512) ![608, 0] ![32, 512] inb_S1920x512_S32x512_608_0,
        k0_pay104 (F := Ideal) (View.ld B (Rect.unit ![608, 0] ![32, 512] inb_S1920x512_S32x512_608_0)) (k0_pay101 (F := Ideal) (View.ld B (Rect.unit ![608, 0] ![32, 512] inb_S1920x512_S32x512_608_0)))⟩,
      ⟨Rect.unit (s := S1920x512) ![576, 0] ![32, 512] inb_S1920x512_S32x512_576_0,
        k0_pay99 (F := Ideal) (View.ld B (Rect.unit ![576, 0] ![32, 512] inb_S1920x512_S32x512_576_0)) (k0_pay96 (F := Ideal) (View.ld B (Rect.unit ![576, 0] ![32, 512] inb_S1920x512_S32x512_576_0))) 1#32⟩,
      ⟨Rect.unit (s := S1920x512) ![544, 0] ![32, 512] inb_S1920x512_S32x512_544_0,
        k0_pay94 (F := Ideal) (View.ld B (Rect.unit ![544, 0] ![32, 512] inb_S1920x512_S32x512_544_0)) (k0_pay92 (F := Ideal) (View.ld B (Rect.unit ![544, 0] ![32, 512] inb_S1920x512_S32x512_544_0)))⟩,
      ⟨Rect.unit (s := S1920x512) ![512, 0] ![32, 512] inb_S1920x512_S32x512_512_0,
        k0_pay90 (F := Ideal) (k0_pay89 (F := Ideal) (View.ld B (Rect.unit ![512, 0] ![32, 512] inb_S1920x512_S32x512_512_0))) (FloatOps.ofBits .f32 0xC7600000#32)⟩,
      ⟨Rect.unit (s := S1920x512) ![480, 0] ![32, 512] inb_S1920x512_S32x512_480_0,
        k0_pay83 (F := Ideal) (View.ld B (Rect.unit ![480, 0] ![32, 512] inb_S1920x512_S32x512_480_0)) (k0_pay80 (F := Ideal) (View.ld B (Rect.unit ![480, 0] ![32, 512] inb_S1920x512_S32x512_480_0)))⟩,
      ⟨Rect.unit (s := S1920x512) ![448, 0] ![32, 512] inb_S1920x512_S32x512_448_0,
        k0_pay78 (F := Ideal) (View.ld B (Rect.unit ![448, 0] ![32, 512] inb_S1920x512_S32x512_448_0)) (k0_pay75 (F := Ideal) (View.ld B (Rect.unit ![448, 0] ![32, 512] inb_S1920x512_S32x512_448_0))) 1#32⟩,
      ⟨Rect.unit (s := S1920x512) ![416, 0] ![32, 512] inb_S1920x512_S32x512_416_0,
        k0_pay73 (F := Ideal) (View.ld B (Rect.unit ![416, 0] ![32, 512] inb_S1920x512_S32x512_416_0)) (k0_pay71 (F := Ideal) (View.ld B (Rect.unit ![416, 0] ![32, 512] inb_S1920x512_S32x512_416_0)))⟩,
      ⟨Rect.unit (s := S1920x512) ![384, 0] ![32, 512] inb_S1920x512_S32x512_384_0,
        k0_pay69 (F := Ideal) (k0_pay68 (F := Ideal) (View.ld B (Rect.unit ![384, 0] ![32, 512] inb_S1920x512_S32x512_384_0))) (FloatOps.ofBits .f32 0xC7600000#32)⟩,
      ⟨Rect.unit (s := S1920x512) ![352, 0] ![32, 512] inb_S1920x512_S32x512_352_0,
        k0_pay62 (F := Ideal) (View.ld B (Rect.unit ![352, 0] ![32, 512] inb_S1920x512_S32x512_352_0)) (k0_pay59 (F := Ideal) (View.ld B (Rect.unit ![352, 0] ![32, 512] inb_S1920x512_S32x512_352_0)))⟩,
      ⟨Rect.unit (s := S1920x512) ![320, 0] ![32, 512] inb_S1920x512_S32x512_320_0,
        k0_pay57 (F := Ideal) (View.ld B (Rect.unit ![320, 0] ![32, 512] inb_S1920x512_S32x512_320_0)) (k0_pay54 (F := Ideal) (View.ld B (Rect.unit ![320, 0] ![32, 512] inb_S1920x512_S32x512_320_0))) 1#32⟩,
      ⟨Rect.unit (s := S1920x512) ![288, 0] ![32, 512] inb_S1920x512_S32x512_288_0,
        k0_pay52 (F := Ideal) (View.ld B (Rect.unit ![288, 0] ![32, 512] inb_S1920x512_S32x512_288_0)) (k0_pay50 (F := Ideal) (View.ld B (Rect.unit ![288, 0] ![32, 512] inb_S1920x512_S32x512_288_0)))⟩,
      ⟨Rect.unit (s := S1920x512) ![256, 0] ![32, 512] inb_S1920x512_S32x512_256_0,
        k0_pay48 (F := Ideal) (k0_pay47 (F := Ideal) (View.ld B (Rect.unit ![256, 0] ![32, 512] inb_S1920x512_S32x512_256_0))) (FloatOps.ofBits .f32 0xC7600000#32)⟩,
      ⟨Rect.unit (s := S1920x512) ![224, 0] ![32, 512] inb_S1920x512_S32x512_224_0,
        k0_pay41 (F := Ideal) (View.ld B (Rect.unit ![224, 0] ![32, 512] inb_S1920x512_S32x512_224_0)) (k0_pay38 (F := Ideal) (View.ld B (Rect.unit ![224, 0] ![32, 512] inb_S1920x512_S32x512_224_0)))⟩,
      ⟨Rect.unit (s := S1920x512) ![192, 0] ![32, 512] inb_S1920x512_S32x512_192_0,
        k0_pay36 (F := Ideal) (View.ld B (Rect.unit ![192, 0] ![32, 512] inb_S1920x512_S32x512_192_0)) (k0_pay33 (F := Ideal) (View.ld B (Rect.unit ![192, 0] ![32, 512] inb_S1920x512_S32x512_192_0))) 1#32⟩,
      ⟨Rect.unit (s := S1920x512) ![160, 0] ![32, 512] inb_S1920x512_S32x512_160_0,
        k0_pay31 (F := Ideal) (View.ld B (Rect.unit ![160, 0] ![32, 512] inb_S1920x512_S32x512_160_0)) (k0_pay29 (F := Ideal) (View.ld B (Rect.unit ![160, 0] ![32, 512] inb_S1920x512_S32x512_160_0)))⟩,
      ⟨Rect.unit (s := S1920x512) ![128, 0] ![32, 512] inb_S1920x512_S32x512_128_0,
        k0_pay27 (F := Ideal) (k0_pay26 (F := Ideal) (View.ld B (Rect.unit ![128, 0] ![32, 512] inb_S1920x512_S32x512_128_0))) (FloatOps.ofBits .f32 0xC7600000#32)⟩,
      ⟨Rect.unit (s := S1920x512) ![96, 0] ![32, 512] inb_S1920x512_S32x512_96_0,
        k0_pay20 (F := Ideal) (View.ld B (Rect.unit ![96, 0] ![32, 512] inb_S1920x512_S32x512_96_0)) (k0_pay17 (F := Ideal) (View.ld B (Rect.unit ![96, 0] ![32, 512] inb_S1920x512_S32x512_96_0)))⟩,
      ⟨Rect.unit (s := S1920x512) ![64, 0] ![32, 512] inb_S1920x512_S32x512_64_0,
        k0_pay15 (F := Ideal) (View.ld B (Rect.unit ![64, 0] ![32, 512] inb_S1920x512_S32x512_64_0)) (k0_pay12 (F := Ideal) (View.ld B (Rect.unit ![64, 0] ![32, 512] inb_S1920x512_S32x512_64_0))) 1#32⟩,
      ⟨Rect.unit (s := S1920x512) ![32, 0] ![32, 512] inb_S1920x512_S32x512_32_0,
        k0_pay10 (F := Ideal) (View.ld B (Rect.unit ![32, 0] ![32, 512] inb_S1920x512_S32x512_32_0)) (k0_pay8 (F := Ideal) (View.ld B (Rect.unit ![32, 0] ![32, 512] inb_S1920x512_S32x512_32_0)))⟩,
      ⟨Rect.unit (s := S1920x512) ![0, 0] ![32, 512] inb_S1920x512_S32x512_0_0,
        k0_pay6 (F := Ideal) (k0_pay5 (F := Ideal) (View.ld B (Rect.unit ![0, 0] ![32, 512] inb_S1920x512_S32x512_0_0))) (FloatOps.ofBits .f32 0xC7600000#32)⟩] = blockCodes B := by
  funext y
  have hy : (y 0).val < 1920 := (y 0).isLt
  refine rows_step (blockCodes B) _ _ rfl _ _ _ y (code_piece B 1888 59 rfl (by decide) _ _ _ (codes59 _)) hy (fun hy => ?_)
  refine rows_step (blockCodes B) _ _ rfl _ _ _ y (code_piece B 1856 58 rfl (by decide) _ _ _ (codes58 _)) hy (fun hy => ?_)
  refine rows_step (blockCodes B) _ _ rfl _ _ _ y (code_piece B 1824 57 rfl (by decide) _ _ _ (codes57 _)) hy (fun hy => ?_)
  refine rows_step (blockCodes B) _ _ rfl _ _ _ y (code_piece B 1792 56 rfl (by decide) _ _ _ (codes56 _)) hy (fun hy => ?_)
  refine rows_step (blockCodes B) _ _ rfl _ _ _ y (code_piece B 1760 55 rfl (by decide) _ _ _ (codes55 _)) hy (fun hy => ?_)
  refine rows_step (blockCodes B) _ _ rfl _ _ _ y (code_piece B 1728 54 rfl (by decide) _ _ _ (codes54 _)) hy (fun hy => ?_)
  refine rows_step (blockCodes B) _ _ rfl _ _ _ y (code_piece B 1696 53 rfl (by decide) _ _ _ (codes53 _)) hy (fun hy => ?_)
  refine rows_step (blockCodes B) _ _ rfl _ _ _ y (code_piece B 1664 52 rfl (by decide) _ _ _ (codes52 _)) hy (fun hy => ?_)
  refine rows_step (blockCodes B) _ _ rfl _ _ _ y (code_piece B 1632 51 rfl (by decide) _ _ _ (codes51 _)) hy (fun hy => ?_)
  refine rows_step (blockCodes B) _ _ rfl _ _ _ y (code_piece B 1600 50 rfl (by decide) _ _ _ (codes50 _)) hy (fun hy => ?_)
  refine rows_step (blockCodes B) _ _ rfl _ _ _ y (code_piece B 1568 49 rfl (by decide) _ _ _ (codes49 _)) hy (fun hy => ?_)
  refine rows_step (blockCodes B) _ _ rfl _ _ _ y (code_piece B 1536 48 rfl (by decide) _ _ _ (codes48 _)) hy (fun hy => ?_)
  refine rows_step (blockCodes B) _ _ rfl _ _ _ y (code_piece B 1504 47 rfl (by decide) _ _ _ (codes47 _)) hy (fun hy => ?_)
  refine rows_step (blockCodes B) _ _ rfl _ _ _ y (code_piece B 1472 46 rfl (by decide) _ _ _ (codes46 _)) hy (fun hy => ?_)
  refine rows_step (blockCodes B) _ _ rfl _ _ _ y (code_piece B 1440 45 rfl (by decide) _ _ _ (codes45 _)) hy (fun hy => ?_)
  refine rows_step (blockCodes B) _ _ rfl _ _ _ y (code_piece B 1408 44 rfl (by decide) _ _ _ (codes44 _)) hy (fun hy => ?_)
  refine rows_step (blockCodes B) _ _ rfl _ _ _ y (code_piece B 1376 43 rfl (by decide) _ _ _ (codes43 _)) hy (fun hy => ?_)
  refine rows_step (blockCodes B) _ _ rfl _ _ _ y (code_piece B 1344 42 rfl (by decide) _ _ _ (codes42 _)) hy (fun hy => ?_)
  refine rows_step (blockCodes B) _ _ rfl _ _ _ y (code_piece B 1312 41 rfl (by decide) _ _ _ (codes41 _)) hy (fun hy => ?_)
  refine rows_step (blockCodes B) _ _ rfl _ _ _ y (code_piece B 1280 40 rfl (by decide) _ _ _ (codes40 _)) hy (fun hy => ?_)
  refine rows_step (blockCodes B) _ _ rfl _ _ _ y (code_piece B 1248 39 rfl (by decide) _ _ _ (codes39 _)) hy (fun hy => ?_)
  refine rows_step (blockCodes B) _ _ rfl _ _ _ y (code_piece B 1216 38 rfl (by decide) _ _ _ (codes38 _)) hy (fun hy => ?_)
  refine rows_step (blockCodes B) _ _ rfl _ _ _ y (code_piece B 1184 37 rfl (by decide) _ _ _ (codes37 _)) hy (fun hy => ?_)
  refine rows_step (blockCodes B) _ _ rfl _ _ _ y (code_piece B 1152 36 rfl (by decide) _ _ _ (codes36 _)) hy (fun hy => ?_)
  refine rows_step (blockCodes B) _ _ rfl _ _ _ y (code_piece B 1120 35 rfl (by decide) _ _ _ (codes35 _)) hy (fun hy => ?_)
  refine rows_step (blockCodes B) _ _ rfl _ _ _ y (code_piece B 1088 34 rfl (by decide) _ _ _ (codes34 _)) hy (fun hy => ?_)
  refine rows_step (blockCodes B) _ _ rfl _ _ _ y (code_piece B 1056 33 rfl (by decide) _ _ _ (codes33 _)) hy (fun hy => ?_)
  refine rows_step (blockCodes B) _ _ rfl _ _ _ y (code_piece B 1024 32 rfl (by decide) _ _ _ (codes32 _)) hy (fun hy => ?_)
  refine rows_step (blockCodes B) _ _ rfl _ _ _ y (code_piece B 992 31 rfl (by decide) _ _ _ (codes31 _)) hy (fun hy => ?_)
  refine rows_step (blockCodes B) _ _ rfl _ _ _ y (code_piece B 960 30 rfl (by decide) _ _ _ (codes30 _)) hy (fun hy => ?_)
  refine rows_step (blockCodes B) _ _ rfl _ _ _ y (code_piece B 928 29 rfl (by decide) _ _ _ (codes29 _)) hy (fun hy => ?_)
  refine rows_step (blockCodes B) _ _ rfl _ _ _ y (code_piece B 896 28 rfl (by decide) _ _ _ (codes28 _)) hy (fun hy => ?_)
  refine rows_step (blockCodes B) _ _ rfl _ _ _ y (code_piece B 864 27 rfl (by decide) _ _ _ (codes27 _)) hy (fun hy => ?_)
  refine rows_step (blockCodes B) _ _ rfl _ _ _ y (code_piece B 832 26 rfl (by decide) _ _ _ (codes26 _)) hy (fun hy => ?_)
  refine rows_step (blockCodes B) _ _ rfl _ _ _ y (code_piece B 800 25 rfl (by decide) _ _ _ (codes25 _)) hy (fun hy => ?_)
  refine rows_step (blockCodes B) _ _ rfl _ _ _ y (code_piece B 768 24 rfl (by decide) _ _ _ (codes24 _)) hy (fun hy => ?_)
  refine rows_step (blockCodes B) _ _ rfl _ _ _ y (code_piece B 736 23 rfl (by decide) _ _ _ (codes23 _)) hy (fun hy => ?_)
  refine rows_step (blockCodes B) _ _ rfl _ _ _ y (code_piece B 704 22 rfl (by decide) _ _ _ (codes22 _)) hy (fun hy => ?_)
  refine rows_step (blockCodes B) _ _ rfl _ _ _ y (code_piece B 672 21 rfl (by decide) _ _ _ (codes21 _)) hy (fun hy => ?_)
  refine rows_step (blockCodes B) _ _ rfl _ _ _ y (code_piece B 640 20 rfl (by decide) _ _ _ (codes20 _)) hy (fun hy => ?_)
  refine rows_step (blockCodes B) _ _ rfl _ _ _ y (code_piece B 608 19 rfl (by decide) _ _ _ (codes19 _)) hy (fun hy => ?_)
  refine rows_step (blockCodes B) _ _ rfl _ _ _ y (code_piece B 576 18 rfl (by decide) _ _ _ (codes18 _)) hy (fun hy => ?_)
  refine rows_step (blockCodes B) _ _ rfl _ _ _ y (code_piece B 544 17 rfl (by decide) _ _ _ (codes17 _)) hy (fun hy => ?_)
  refine rows_step (blockCodes B) _ _ rfl _ _ _ y (code_piece B 512 16 rfl (by decide) _ _ _ (codes16 _)) hy (fun hy => ?_)
  refine rows_step (blockCodes B) _ _ rfl _ _ _ y (code_piece B 480 15 rfl (by decide) _ _ _ (codes15 _)) hy (fun hy => ?_)
  refine rows_step (blockCodes B) _ _ rfl _ _ _ y (code_piece B 448 14 rfl (by decide) _ _ _ (codes14 _)) hy (fun hy => ?_)
  refine rows_step (blockCodes B) _ _ rfl _ _ _ y (code_piece B 416 13 rfl (by decide) _ _ _ (codes13 _)) hy (fun hy => ?_)
  refine rows_step (blockCodes B) _ _ rfl _ _ _ y (code_piece B 384 12 rfl (by decide) _ _ _ (codes12 _)) hy (fun hy => ?_)
  refine rows_step (blockCodes B) _ _ rfl _ _ _ y (code_piece B 352 11 rfl (by decide) _ _ _ (codes11 _)) hy (fun hy => ?_)
  refine rows_step (blockCodes B) _ _ rfl _ _ _ y (code_piece B 320 10 rfl (by decide) _ _ _ (codes10 _)) hy (fun hy => ?_)
  refine rows_step (blockCodes B) _ _ rfl _ _ _ y (code_piece B 288 9 rfl (by decide) _ _ _ (codes9 _)) hy (fun hy => ?_)
  refine rows_step (blockCodes B) _ _ rfl _ _ _ y (code_piece B 256 8 rfl (by decide) _ _ _ (codes8 _)) hy (fun hy => ?_)
  refine rows_step (blockCodes B) _ _ rfl _ _ _ y (code_piece B 224 7 rfl (by decide) _ _ _ (codes7 _)) hy (fun hy => ?_)
  refine rows_step (blockCodes B) _ _ rfl _ _ _ y (code_piece B 192 6 rfl (by decide) _ _ _ (codes6 _)) hy (fun hy => ?_)
  refine rows_step (blockCodes B) _ _ rfl _ _ _ y (code_piece B 160 5 rfl (by decide) _ _ _ (codes5 _)) hy (fun hy => ?_)
  refine rows_step (blockCodes B) _ _ rfl _ _ _ y (code_piece B 128 4 rfl (by decide) _ _ _ (codes4 _)) hy (fun hy => ?_)
  refine rows_step (blockCodes B) _ _ rfl _ _ _ y (code_piece B 96 3 rfl (by decide) _ _ _ (codes3 _)) hy (fun hy => ?_)
  refine rows_step (blockCodes B) _ _ rfl _ _ _ y (code_piece B 64 2 rfl (by decide) _ _ _ (codes2 _)) hy (fun hy => ?_)
  refine rows_step (blockCodes B) _ _ rfl _ _ _ y (code_piece B 32 1 rfl (by decide) _ _ _ (codes1 _)) hy (fun hy => ?_)
  refine rows_step (blockCodes B) _ _ rfl _ _ _ y (code_piece B 0 0 rfl (by decide) _ _ _ (codes0 _)) hy (fun hy => ?_)
  exact absurd hy (Nat.not_lt_zero _)

/-- The 60 groups of decoded codes make up the decoded block. -/
theorem canon_decoded (B : Vec Ideal S1920x512 .bf16) :
    View.canon (Val := Elt Ideal)
     [⟨Rect.unit (s := S1920x512) ![1888, 0] ![32, 512] inb_S1920x512_S32x512_1888_0,
        k0_pay317 (F := Ideal) (k0_pay315 (F := Ideal) (View.ld B (Rect.unit ![1888, 0] ![32, 512] inb_S1920x512_S32x512_1888_0)) (k0_pay311 (F := Ideal) (View.ld B (Rect.unit ![1888, 0] ![32, 512] inb_S1920x512_S32x512_1888_0)))) (k0_pay316 (F := Ideal) (k0_pay311 (F := Ideal) (View.ld B (Rect.unit ![1888, 0] ![32, 512] inb_S1920x512_S32x512_1888_0))))⟩,
      ⟨Rect.unit (s := S1920x512) ![1856, 0] ![32, 512] inb_S1920x512_S32x512_1856_0,
        k0_pay310 (F := Ideal) (View.ld B (Rect.unit ![1856, 0] ![32, 512] inb_S1920x512_S32x512_1856_0)) (k0_pay306 (F := Ideal) (View.ld B (Rect.unit ![1856, 0] ![32, 512] inb_S1920x512_S32x512_1856_0))) 1#32⟩,
      ⟨Rect.unit (s := S1920x512) ![1824, 0] ![32, 512] inb_S1920x512_S32x512_1824_0,
        k0_pay305 (F := Ideal) (View.ld B (Rect.unit ![1824, 0] ![32, 512] inb_S1920x512_S32x512_1824_0)) (k0_pay302 (F := Ideal) (View.ld B (Rect.unit ![1824, 0] ![32, 512] inb_S1920x512_S32x512_1824_0))) (k0_pay303 (F := Ideal) (View.ld B (Rect.unit ![1824, 0] ![32, 512] inb_S1920x512_S32x512_1824_0)))⟩,
      ⟨Rect.unit (s := S1920x512) ![1792, 0] ![32, 512] inb_S1920x512_S32x512_1792_0,
        k0_pay301 (F := Ideal) (k0_pay298 (F := Ideal) (View.ld B (Rect.unit ![1792, 0] ![32, 512] inb_S1920x512_S32x512_1792_0))) (k0_pay299 (F := Ideal) (View.ld B (Rect.unit ![1792, 0] ![32, 512] inb_S1920x512_S32x512_1792_0))) (FloatOps.ofBits .f32 0xC7600000#32)⟩,
      ⟨Rect.unit (s := S1920x512) ![1760, 0] ![32, 512] inb_S1920x512_S32x512_1760_0,
        k0_pay296 (F := Ideal) (k0_pay294 (F := Ideal) (View.ld B (Rect.unit ![1760, 0] ![32, 512] inb_S1920x512_S32x512_1760_0)) (k0_pay290 (F := Ideal) (View.ld B (Rect.unit ![1760, 0] ![32, 512] inb_S1920x512_S32x512_1760_0)))) (k0_pay295 (F := Ideal) (k0_pay290 (F := Ideal) (View.ld B (Rect.unit ![1760, 0] ![32, 512] inb_S1920x512_S32x512_1760_0))))⟩,
      ⟨Rect.unit (s := S1920x512) ![1728, 0] ![32, 512] inb_S1920x512_S32x512_1728_0,
        k0_pay289 (F := Ideal) (View.ld B (Rect.unit ![1728, 0] ![32, 512] inb_S1920x512_S32x512_1728_0)) (k0_pay285 (F := Ideal) (View.ld B (Rect.unit ![1728, 0] ![32, 512] inb_S1920x512_S32x512_1728_0))) 1#32⟩,
      ⟨Rect.unit (s := S1920x512) ![1696, 0] ![32, 512] inb_S1920x512_S32x512_1696_0,
        k0_pay284 (F := Ideal) (View.ld B (Rect.unit ![1696, 0] ![32, 512] inb_S1920x512_S32x512_1696_0)) (k0_pay281 (F := Ideal) (View.ld B (Rect.unit ![1696, 0] ![32, 512] inb_S1920x512_S32x512_1696_0))) (k0_pay282 (F := Ideal) (View.ld B (Rect.unit ![1696, 0] ![32, 512] inb_S1920x512_S32x512_1696_0)))⟩,
      ⟨Rect.unit (s := S1920x512) ![1664, 0] ![32, 512] inb_S1920x512_S32x512_1664_0,
        k0_pay280 (F := Ideal) (k0_pay277 (F := Ideal) (View.ld B (Rect.unit ![1664, 0] ![32, 512] inb_S1920x512_S32x512_1664_0))) (k0_pay278 (F := Ideal) (View.ld B (Rect.unit ![1664, 0] ![32, 512] inb_S1920x512_S32x512_1664_0))) (FloatOps.ofBits .f32 0xC7600000#32)⟩,
      ⟨Rect.unit (s := S1920x512) ![1632, 0] ![32, 512] inb_S1920x512_S32x512_1632_0,
        k0_pay275 (F := Ideal) (k0_pay273 (F := Ideal) (View.ld B (Rect.unit ![1632, 0] ![32, 512] inb_S1920x512_S32x512_1632_0)) (k0_pay269 (F := Ideal) (View.ld B (Rect.unit ![1632, 0] ![32, 512] inb_S1920x512_S32x512_1632_0)))) (k0_pay274 (F := Ideal) (k0_pay269 (F := Ideal) (View.ld B (Rect.unit ![1632, 0] ![32, 512] inb_S1920x512_S32x512_1632_0))))⟩,
      ⟨Rect.unit (s := S1920x512) ![1600, 0] ![32, 512] inb_S1920x512_S32x512_1600_0,
        k0_pay268 (F := Ideal) (View.ld B (Rect.unit ![1600, 0] ![32, 512] inb_S1920x512_S32x512_1600_0)) (k0_pay264 (F := Ideal) (View.ld B (Rect.unit ![1600, 0] ![32, 512] inb_S1920x512_S32x512_1600_0))) 1#32⟩,
      ⟨Rect.unit (s := S1920x512) ![1568, 0] ![32, 512] inb_S1920x512_S32x512_1568_0,
        k0_pay263 (F := Ideal) (View.ld B (Rect.unit ![1568, 0] ![32, 512] inb_S1920x512_S32x512_1568_0)) (k0_pay260 (F := Ideal) (View.ld B (Rect.unit ![1568, 0] ![32, 512] inb_S1920x512_S32x512_1568_0))) (k0_pay261 (F := Ideal) (View.ld B (Rect.unit ![1568, 0] ![32, 512] inb_S1920x512_S32x512_1568_0)))⟩,
      ⟨Rect.unit (s := S1920x512) ![1536, 0] ![32, 512] inb_S1920x512_S32x512_1536_0,
        k0_pay259 (F := Ideal) (k0_pay256 (F := Ideal) (View.ld B (Rect.unit ![1536, 0] ![32, 512] inb_S1920x512_S32x512_1536_0))) (k0_pay257 (F := Ideal) (View.ld B (Rect.unit ![1536, 0] ![32, 512] inb_S1920x512_S32x512_1536_0))) (FloatOps.ofBits .f32 0xC7600000#32)⟩,
      ⟨Rect.unit (s := S1920x512) ![1504, 0] ![32, 512] inb_S1920x512_S32x512_1504_0,
        k0_pay254 (F := Ideal) (k0_pay252 (F := Ideal) (View.ld B (Rect.unit ![1504, 0] ![32, 512] inb_S1920x512_S32x512_1504_0)) (k0_pay248 (F := Ideal) (View.ld B (Rect.unit ![1504, 0] ![32, 512] inb_S1920x512_S32x512_1504_0)))) (k0_pay253 (F := Ideal) (k0_pay248 (F := Ideal) (View.ld B (Rect.unit ![1504, 0] ![32, 512] inb_S1920x512_S32x512_1504_0))))⟩,
      ⟨Rect.unit (s := S1920x512) ![1472, 0] ![32, 512] inb_S1920x512_S32x512_1472_0,
        k0_pay247 (F := Ideal) (View.ld B (Rect.unit ![1472, 0] ![32, 512] inb_S1920x512_S32x512_1472_0)) (k0_pay243 (F := Ideal) (View.ld B (Rect.unit ![1472, 0] ![32, 512] inb_S1920x512_S32x512_1472_0))) 1#32⟩,
      ⟨Rect.unit (s := S1920x512) ![1440, 0] ![32, 512] inb_S1920x512_S32x512_1440_0,
        k0_pay242 (F := Ideal) (View.ld B (Rect.unit ![1440, 0] ![32, 512] inb_S1920x512_S32x512_1440_0)) (k0_pay239 (F := Ideal) (View.ld B (Rect.unit ![1440, 0] ![32, 512] inb_S1920x512_S32x512_1440_0))) (k0_pay240 (F := Ideal) (View.ld B (Rect.unit ![1440, 0] ![32, 512] inb_S1920x512_S32x512_1440_0)))⟩,
      ⟨Rect.unit (s := S1920x512) ![1408, 0] ![32, 512] inb_S1920x512_S32x512_1408_0,
        k0_pay238 (F := Ideal) (k0_pay235 (F := Ideal) (View.ld B (Rect.unit ![1408, 0] ![32, 512] inb_S1920x512_S32x512_1408_0))) (k0_pay236 (F := Ideal) (View.ld B (Rect.unit ![1408, 0] ![32, 512] inb_S1920x512_S32x512_1408_0))) (FloatOps.ofBits .f32 0xC7600000#32)⟩,
      ⟨Rect.unit (s := S1920x512) ![1376, 0] ![32, 512] inb_S1920x512_S32x512_1376_0,
        k0_pay233 (F := Ideal) (k0_pay231 (F := Ideal) (View.ld B (Rect.unit ![1376, 0] ![32, 512] inb_S1920x512_S32x512_1376_0)) (k0_pay227 (F := Ideal) (View.ld B (Rect.unit ![1376, 0] ![32, 512] inb_S1920x512_S32x512_1376_0)))) (k0_pay232 (F := Ideal) (k0_pay227 (F := Ideal) (View.ld B (Rect.unit ![1376, 0] ![32, 512] inb_S1920x512_S32x512_1376_0))))⟩,
      ⟨Rect.unit (s := S1920x512) ![1344, 0] ![32, 512] inb_S1920x512_S32x512_1344_0,
        k0_pay226 (F := Ideal) (View.ld B (Rect.unit ![1344, 0] ![32, 512] inb_S1920x512_S32x512_1344_0)) (k0_pay222 (F := Ideal) (View.ld B (Rect.unit ![1344, 0] ![32, 512] inb_S1920x512_S32x512_1344_0))) 1#32⟩,
      ⟨Rect.unit (s := S1920x512) ![1312, 0] ![32, 512] inb_S1920x512_S32x512_1312_0,
        k0_pay221 (F := Ideal) (View.ld B (Rect.unit ![1312, 0] ![32, 512] inb_S1920x512_S32x512_1312_0)) (k0_pay218 (F := Ideal) (View.ld B (Rect.unit ![1312, 0] ![32, 512] inb_S1920x512_S32x512_1312_0))) (k0_pay219 (F := Ideal) (View.ld B (Rect.unit ![1312, 0] ![32, 512] inb_S1920x512_S32x512_1312_0)))⟩,
      ⟨Rect.unit (s := S1920x512) ![1280, 0] ![32, 512] inb_S1920x512_S32x512_1280_0,
        k0_pay217 (F := Ideal) (k0_pay214 (F := Ideal) (View.ld B (Rect.unit ![1280, 0] ![32, 512] inb_S1920x512_S32x512_1280_0))) (k0_pay215 (F := Ideal) (View.ld B (Rect.unit ![1280, 0] ![32, 512] inb_S1920x512_S32x512_1280_0))) (FloatOps.ofBits .f32 0xC7600000#32)⟩,
      ⟨Rect.unit (s := S1920x512) ![1248, 0] ![32, 512] inb_S1920x512_S32x512_1248_0,
        k0_pay212 (F := Ideal) (k0_pay210 (F := Ideal) (View.ld B (Rect.unit ![1248, 0] ![32, 512] inb_S1920x512_S32x512_1248_0)) (k0_pay206 (F := Ideal) (View.ld B (Rect.unit ![1248, 0] ![32, 512] inb_S1920x512_S32x512_1248_0)))) (k0_pay211 (F := Ideal) (k0_pay206 (F := Ideal) (View.ld B (Rect.unit ![1248, 0] ![32, 512] inb_S1920x512_S32x512_1248_0))))⟩,
      ⟨Rect.unit (s := S1920x512) ![1216, 0] ![32, 512] inb_S1920x512_S32x512_1216_0,
        k0_pay205 (F := Ideal) (View.ld B (Rect.unit ![1216, 0] ![32, 512] inb_S1920x512_S32x512_1216_0)) (k0_pay201 (F := Ideal) (View.ld B (Rect.unit ![1216, 0] ![32, 512] inb_S1920x512_S32x512_1216_0))) 1#32⟩,
      ⟨Rect.unit (s := S1920x512) ![1184, 0] ![32, 512] inb_S1920x512_S32x512_1184_0,
        k0_pay200 (F := Ideal) (View.ld B (Rect.unit ![1184, 0] ![32, 512] inb_S1920x512_S32x512_1184_0)) (k0_pay197 (F := Ideal) (View.ld B (Rect.unit ![1184, 0] ![32, 512] inb_S1920x512_S32x512_1184_0))) (k0_pay198 (F := Ideal) (View.ld B (Rect.unit ![1184, 0] ![32, 512] inb_S1920x512_S32x512_1184_0)))⟩,
      ⟨Rect.unit (s := S1920x512) ![1152, 0] ![32, 512] inb_S1920x512_S32x512_1152_0,
        k0_pay196 (F := Ideal) (k0_pay193 (F := Ideal) (View.ld B (Rect.unit ![1152, 0] ![32, 512] inb_S1920x512_S32x512_1152_0))) (k0_pay194 (F := Ideal) (View.ld B (Rect.unit ![1152, 0] ![32, 512] inb_S1920x512_S32x512_1152_0))) (FloatOps.ofBits .f32 0xC7600000#32)⟩,
      ⟨Rect.unit (s := S1920x512) ![1120, 0] ![32, 512] inb_S1920x512_S32x512_1120_0,
        k0_pay191 (F := Ideal) (k0_pay189 (F := Ideal) (View.ld B (Rect.unit ![1120, 0] ![32, 512] inb_S1920x512_S32x512_1120_0)) (k0_pay185 (F := Ideal) (View.ld B (Rect.unit ![1120, 0] ![32, 512] inb_S1920x512_S32x512_1120_0)))) (k0_pay190 (F := Ideal) (k0_pay185 (F := Ideal) (View.ld B (Rect.unit ![1120, 0] ![32, 512] inb_S1920x512_S32x512_1120_0))))⟩,
      ⟨Rect.unit (s := S1920x512) ![1088, 0] ![32, 512] inb_S1920x512_S32x512_1088_0,
        k0_pay184 (F := Ideal) (View.ld B (Rect.unit ![1088, 0] ![32, 512] inb_S1920x512_S32x512_1088_0)) (k0_pay180 (F := Ideal) (View.ld B (Rect.unit ![1088, 0] ![32, 512] inb_S1920x512_S32x512_1088_0))) 1#32⟩,
      ⟨Rect.unit (s := S1920x512) ![1056, 0] ![32, 512] inb_S1920x512_S32x512_1056_0,
        k0_pay179 (F := Ideal) (View.ld B (Rect.unit ![1056, 0] ![32, 512] inb_S1920x512_S32x512_1056_0)) (k0_pay176 (F := Ideal) (View.ld B (Rect.unit ![1056, 0] ![32, 512] inb_S1920x512_S32x512_1056_0))) (k0_pay177 (F := Ideal) (View.ld B (Rect.unit ![1056, 0] ![32, 512] inb_S1920x512_S32x512_1056_0)))⟩,
      ⟨Rect.unit (s := S1920x512) ![1024, 0] ![32, 512] inb_S1920x512_S32x512_1024_0,
        k0_pay175 (F := Ideal) (k0_pay172 (F := Ideal) (View.ld B (Rect.unit ![1024, 0] ![32, 512] inb_S1920x512_S32x512_1024_0))) (k0_pay173 (F := Ideal) (View.ld B (Rect.unit ![1024, 0] ![32, 512] inb_S1920x512_S32x512_1024_0))) (FloatOps.ofBits .f32 0xC7600000#32)⟩,
      ⟨Rect.unit (s := S1920x512) ![992, 0] ![32, 512] inb_S1920x512_S32x512_992_0,
        k0_pay170 (F := Ideal) (k0_pay168 (F := Ideal) (View.ld B (Rect.unit ![992, 0] ![32, 512] inb_S1920x512_S32x512_992_0)) (k0_pay164 (F := Ideal) (View.ld B (Rect.unit ![992, 0] ![32, 512] inb_S1920x512_S32x512_992_0)))) (k0_pay169 (F := Ideal) (k0_pay164 (F := Ideal) (View.ld B (Rect.unit ![992, 0] ![32, 512] inb_S1920x512_S32x512_992_0))))⟩,
      ⟨Rect.unit (s := S1920x512) ![960, 0] ![32, 512] inb_S1920x512_S32x512_960_0,
        k0_pay163 (F := Ideal) (View.ld B (Rect.unit ![960, 0] ![32, 512] inb_S1920x512_S32x512_960_0)) (k0_pay159 (F := Ideal) (View.ld B (Rect.unit ![960, 0] ![32, 512] inb_S1920x512_S32x512_960_0))) 1#32⟩,
      ⟨Rect.unit (s := S1920x512) ![928, 0] ![32, 512] inb_S1920x512_S32x512_928_0,
        k0_pay158 (F := Ideal) (View.ld B (Rect.unit ![928, 0] ![32, 512] inb_S1920x512_S32x512_928_0)) (k0_pay155 (F := Ideal) (View.ld B (Rect.unit ![928, 0] ![32, 512] inb_S1920x512_S32x512_928_0))) (k0_pay156 (F := Ideal) (View.ld B (Rect.unit ![928, 0] ![32, 512] inb_S1920x512_S32x512_928_0)))⟩,
      ⟨Rect.unit (s := S1920x512) ![896, 0] ![32, 512] inb_S1920x512_S32x512_896_0,
        k0_pay154 (F := Ideal) (k0_pay151 (F := Ideal) (View.ld B (Rect.unit ![896, 0] ![32, 512] inb_S1920x512_S32x512_896_0))) (k0_pay152 (F := Ideal) (View.ld B (Rect.unit ![896, 0] ![32, 512] inb_S1920x512_S32x512_896_0))) (FloatOps.ofBits .f32 0xC7600000#32)⟩,
      ⟨Rect.unit (s := S1920x512) ![864, 0] ![32, 512] inb_S1920x512_S32x512_864_0,
        k0_pay149 (F := Ideal) (k0_pay147 (F := Ideal) (View.ld B (Rect.unit ![864, 0] ![32, 512] inb_S1920x512_S32x512_864_0)) (k0_pay143 (F := Ideal) (View.ld B (Rect.unit ![864, 0] ![32, 512] inb_S1920x512_S32x512_864_0)))) (k0_pay148 (F := Ideal) (k0_pay143 (F := Ideal) (View.ld B (Rect.unit ![864, 0] ![32, 512] inb_S1920x512_S32x512_864_0))))⟩,
      ⟨Rect.unit (s := S1920x512) ![832, 0] ![32, 512] inb_S1920x512_S32x512_832_0,
        k0_pay142 (F := Ideal) (View.ld B (Rect.unit ![832, 0] ![32, 512] inb_S1920x512_S32x512_832_0)) (k0_pay138 (F := Ideal) (View.ld B (Rect.unit ![832, 0] ![32, 512] inb_S1920x512_S32x512_832_0))) 1#32⟩,
      ⟨Rect.unit (s := S1920x512) ![800, 0] ![32, 512] inb_S1920x512_S32x512_800_0,
        k0_pay137 (F := Ideal) (View.ld B (Rect.unit ![800, 0] ![32, 512] inb_S1920x512_S32x512_800_0)) (k0_pay134 (F := Ideal) (View.ld B (Rect.unit ![800, 0] ![32, 512] inb_S1920x512_S32x512_800_0))) (k0_pay135 (F := Ideal) (View.ld B (Rect.unit ![800, 0] ![32, 512] inb_S1920x512_S32x512_800_0)))⟩,
      ⟨Rect.unit (s := S1920x512) ![768, 0] ![32, 512] inb_S1920x512_S32x512_768_0,
        k0_pay133 (F := Ideal) (k0_pay130 (F := Ideal) (View.ld B (Rect.unit ![768, 0] ![32, 512] inb_S1920x512_S32x512_768_0))) (k0_pay131 (F := Ideal) (View.ld B (Rect.unit ![768, 0] ![32, 512] inb_S1920x512_S32x512_768_0))) (FloatOps.ofBits .f32 0xC7600000#32)⟩,
      ⟨Rect.unit (s := S1920x512) ![736, 0] ![32, 512] inb_S1920x512_S32x512_736_0,
        k0_pay128 (F := Ideal) (k0_pay126 (F := Ideal) (View.ld B (Rect.unit ![736, 0] ![32, 512] inb_S1920x512_S32x512_736_0)) (k0_pay122 (F := Ideal) (View.ld B (Rect.unit ![736, 0] ![32, 512] inb_S1920x512_S32x512_736_0)))) (k0_pay127 (F := Ideal) (k0_pay122 (F := Ideal) (View.ld B (Rect.unit ![736, 0] ![32, 512] inb_S1920x512_S32x512_736_0))))⟩,
      ⟨Rect.unit (s := S1920x512) ![704, 0] ![32, 512] inb_S1920x512_S32x512_704_0,
        k0_pay121 (F := Ideal) (View.ld B (Rect.unit ![704, 0] ![32, 512] inb_S1920x512_S32x512_704_0)) (k0_pay117 (F := Ideal) (View.ld B (Rect.unit ![704, 0] ![32, 512] inb_S1920x512_S32x512_704_0))) 1#32⟩,
      ⟨Rect.unit (s := S1920x512) ![672, 0] ![32, 512] inb_S1920x512_S32x512_672_0,
        k0_pay116 (F := Ideal) (View.ld B (Rect.unit ![672, 0] ![32, 512] inb_S1920x512_S32x512_672_0)) (k0_pay113 (F := Ideal) (View.ld B (Rect.unit ![672, 0] ![32, 512] inb_S1920x512_S32x512_672_0))) (k0_pay114 (F := Ideal) (View.ld B (Rect.unit ![672, 0] ![32, 512] inb_S1920x512_S32x512_672_0)))⟩,
      ⟨Rect.unit (s := S1920x512) ![640, 0] ![32, 512] inb_S1920x512_S32x512_640_0,
        k0_pay112 (F := Ideal) (k0_pay109 (F := Ideal) (View.ld B (Rect.unit ![640, 0] ![32, 512] inb_S1920x512_S32x512_640_0))) (k0_pay110 (F := Ideal) (View.ld B (Rect.unit ![640, 0] ![32, 512] inb_S1920x512_S32x512_640_0))) (FloatOps.ofBits .f32 0xC7600000#32)⟩,
      ⟨Rect.unit (s := S1920x512) ![608, 0] ![32, 512] inb_S1920x512_S32x512_608_0,
        k0_pay107 (F := Ideal) (k0_pay105 (F := Ideal) (View.ld B (Rect.unit ![608, 0] ![32, 512] inb_S1920x512_S32x512_608_0)) (k0_pay101 (F := Ideal) (View.ld B (Rect.unit ![608, 0] ![32, 512] inb_S1920x512_S32x512_608_0)))) (k0_pay106 (F := Ideal) (k0_pay101 (F := Ideal) (View.ld B (Rect.unit ![608, 0] ![32, 512] inb_S1920x512_S32x512_608_0))))⟩,
      ⟨Rect.unit (s := S1920x512) ![576, 0] ![32, 512] inb_S1920x512_S32x512_576_0,
        k0_pay100 (F := Ideal) (View.ld B (Rect.unit ![576, 0] ![32, 512] inb_S1920x512_S32x512_576_0)) (k0_pay96 (F := Ideal) (View.ld B (Rect.unit ![576, 0] ![32, 512] inb_S1920x512_S32x512_576_0))) 1#32⟩,
      ⟨Rect.unit (s := S1920x512) ![544, 0] ![32, 512] inb_S1920x512_S32x512_544_0,
        k0_pay95 (F := Ideal) (View.ld B (Rect.unit ![544, 0] ![32, 512] inb_S1920x512_S32x512_544_0)) (k0_pay92 (F := Ideal) (View.ld B (Rect.unit ![544, 0] ![32, 512] inb_S1920x512_S32x512_544_0))) (k0_pay93 (F := Ideal) (View.ld B (Rect.unit ![544, 0] ![32, 512] inb_S1920x512_S32x512_544_0)))⟩,
      ⟨Rect.unit (s := S1920x512) ![512, 0] ![32, 512] inb_S1920x512_S32x512_512_0,
        k0_pay91 (F := Ideal) (k0_pay88 (F := Ideal) (View.ld B (Rect.unit ![512, 0] ![32, 512] inb_S1920x512_S32x512_512_0))) (k0_pay89 (F := Ideal) (View.ld B (Rect.unit ![512, 0] ![32, 512] inb_S1920x512_S32x512_512_0))) (FloatOps.ofBits .f32 0xC7600000#32)⟩,
      ⟨Rect.unit (s := S1920x512) ![480, 0] ![32, 512] inb_S1920x512_S32x512_480_0,
        k0_pay86 (F := Ideal) (k0_pay84 (F := Ideal) (View.ld B (Rect.unit ![480, 0] ![32, 512] inb_S1920x512_S32x512_480_0)) (k0_pay80 (F := Ideal) (View.ld B (Rect.unit ![480, 0] ![32, 512] inb_S1920x512_S32x512_480_0)))) (k0_pay85 (F := Ideal) (k0_pay80 (F := Ideal) (View.ld B (Rect.unit ![480, 0] ![32, 512] inb_S1920x512_S32x512_480_0))))⟩,
      ⟨Rect.unit (s := S1920x512) ![448, 0] ![32, 512] inb_S1920x512_S32x512_448_0,
        k0_pay79 (F := Ideal) (View.ld B (Rect.unit ![448, 0] ![32, 512] inb_S1920x512_S32x512_448_0)) (k0_pay75 (F := Ideal) (View.ld B (Rect.unit ![448, 0] ![32, 512] inb_S1920x512_S32x512_448_0))) 1#32⟩,
      ⟨Rect.unit (s := S1920x512) ![416, 0] ![32, 512] inb_S1920x512_S32x512_416_0,
        k0_pay74 (F := Ideal) (View.ld B (Rect.unit ![416, 0] ![32, 512] inb_S1920x512_S32x512_416_0)) (k0_pay71 (F := Ideal) (View.ld B (Rect.unit ![416, 0] ![32, 512] inb_S1920x512_S32x512_416_0))) (k0_pay72 (F := Ideal) (View.ld B (Rect.unit ![416, 0] ![32, 512] inb_S1920x512_S32x512_416_0)))⟩,
      ⟨Rect.unit (s := S1920x512) ![384, 0] ![32, 512] inb_S1920x512_S32x512_384_0,
        k0_pay70 (F := Ideal) (k0_pay67 (F := Ideal) (View.ld B (Rect.unit ![384, 0] ![32, 512] inb_S1920x512_S32x512_384_0))) (k0_pay68 (F := Ideal) (View.ld B (Rect.unit ![384, 0] ![32, 512] inb_S1920x512_S32x512_384_0))) (FloatOps.ofBits .f32 0xC7600000#32)⟩,
      ⟨Rect.unit (s := S1920x512) ![352, 0] ![32, 512] inb_S1920x512_S32x512_352_0,
        k0_pay65 (F := Ideal) (k0_pay63 (F := Ideal) (View.ld B (Rect.unit ![352, 0] ![32, 512] inb_S1920x512_S32x512_352_0)) (k0_pay59 (F := Ideal) (View.ld B (Rect.unit ![352, 0] ![32, 512] inb_S1920x512_S32x512_352_0)))) (k0_pay64 (F := Ideal) (k0_pay59 (F := Ideal) (View.ld B (Rect.unit ![352, 0] ![32, 512] inb_S1920x512_S32x512_352_0))))⟩,
      ⟨Rect.unit (s := S1920x512) ![320, 0] ![32, 512] inb_S1920x512_S32x512_320_0,
        k0_pay58 (F := Ideal) (View.ld B (Rect.unit ![320, 0] ![32, 512] inb_S1920x512_S32x512_320_0)) (k0_pay54 (F := Ideal) (View.ld B (Rect.unit ![320, 0] ![32, 512] inb_S1920x512_S32x512_320_0))) 1#32⟩,
      ⟨Rect.unit (s := S1920x512) ![288, 0] ![32, 512] inb_S1920x512_S32x512_288_0,
        k0_pay53 (F := Ideal) (View.ld B (Rect.unit ![288, 0] ![32, 512] inb_S1920x512_S32x512_288_0)) (k0_pay50 (F := Ideal) (View.ld B (Rect.unit ![288, 0] ![32, 512] inb_S1920x512_S32x512_288_0))) (k0_pay51 (F := Ideal) (View.ld B (Rect.unit ![288, 0] ![32, 512] inb_S1920x512_S32x512_288_0)))⟩,
      ⟨Rect.unit (s := S1920x512) ![256, 0] ![32, 512] inb_S1920x512_S32x512_256_0,
        k0_pay49 (F := Ideal) (k0_pay46 (F := Ideal) (View.ld B (Rect.unit ![256, 0] ![32, 512] inb_S1920x512_S32x512_256_0))) (k0_pay47 (F := Ideal) (View.ld B (Rect.unit ![256, 0] ![32, 512] inb_S1920x512_S32x512_256_0))) (FloatOps.ofBits .f32 0xC7600000#32)⟩,
      ⟨Rect.unit (s := S1920x512) ![224, 0] ![32, 512] inb_S1920x512_S32x512_224_0,
        k0_pay44 (F := Ideal) (k0_pay42 (F := Ideal) (View.ld B (Rect.unit ![224, 0] ![32, 512] inb_S1920x512_S32x512_224_0)) (k0_pay38 (F := Ideal) (View.ld B (Rect.unit ![224, 0] ![32, 512] inb_S1920x512_S32x512_224_0)))) (k0_pay43 (F := Ideal) (k0_pay38 (F := Ideal) (View.ld B (Rect.unit ![224, 0] ![32, 512] inb_S1920x512_S32x512_224_0))))⟩,
      ⟨Rect.unit (s := S1920x512) ![192, 0] ![32, 512] inb_S1920x512_S32x512_192_0,
        k0_pay37 (F := Ideal) (View.ld B (Rect.unit ![192, 0] ![32, 512] inb_S1920x512_S32x512_192_0)) (k0_pay33 (F := Ideal) (View.ld B (Rect.unit ![192, 0] ![32, 512] inb_S1920x512_S32x512_192_0))) 1#32⟩,
      ⟨Rect.unit (s := S1920x512) ![160, 0] ![32, 512] inb_S1920x512_S32x512_160_0,
        k0_pay32 (F := Ideal) (View.ld B (Rect.unit ![160, 0] ![32, 512] inb_S1920x512_S32x512_160_0)) (k0_pay29 (F := Ideal) (View.ld B (Rect.unit ![160, 0] ![32, 512] inb_S1920x512_S32x512_160_0))) (k0_pay30 (F := Ideal) (View.ld B (Rect.unit ![160, 0] ![32, 512] inb_S1920x512_S32x512_160_0)))⟩,
      ⟨Rect.unit (s := S1920x512) ![128, 0] ![32, 512] inb_S1920x512_S32x512_128_0,
        k0_pay28 (F := Ideal) (k0_pay25 (F := Ideal) (View.ld B (Rect.unit ![128, 0] ![32, 512] inb_S1920x512_S32x512_128_0))) (k0_pay26 (F := Ideal) (View.ld B (Rect.unit ![128, 0] ![32, 512] inb_S1920x512_S32x512_128_0))) (FloatOps.ofBits .f32 0xC7600000#32)⟩,
      ⟨Rect.unit (s := S1920x512) ![96, 0] ![32, 512] inb_S1920x512_S32x512_96_0,
        k0_pay23 (F := Ideal) (k0_pay21 (F := Ideal) (View.ld B (Rect.unit ![96, 0] ![32, 512] inb_S1920x512_S32x512_96_0)) (k0_pay17 (F := Ideal) (View.ld B (Rect.unit ![96, 0] ![32, 512] inb_S1920x512_S32x512_96_0)))) (k0_pay22 (F := Ideal) (k0_pay17 (F := Ideal) (View.ld B (Rect.unit ![96, 0] ![32, 512] inb_S1920x512_S32x512_96_0))))⟩,
      ⟨Rect.unit (s := S1920x512) ![64, 0] ![32, 512] inb_S1920x512_S32x512_64_0,
        k0_pay16 (F := Ideal) (View.ld B (Rect.unit ![64, 0] ![32, 512] inb_S1920x512_S32x512_64_0)) (k0_pay12 (F := Ideal) (View.ld B (Rect.unit ![64, 0] ![32, 512] inb_S1920x512_S32x512_64_0))) 1#32⟩,
      ⟨Rect.unit (s := S1920x512) ![32, 0] ![32, 512] inb_S1920x512_S32x512_32_0,
        k0_pay11 (F := Ideal) (View.ld B (Rect.unit ![32, 0] ![32, 512] inb_S1920x512_S32x512_32_0)) (k0_pay8 (F := Ideal) (View.ld B (Rect.unit ![32, 0] ![32, 512] inb_S1920x512_S32x512_32_0))) (k0_pay9 (F := Ideal) (View.ld B (Rect.unit ![32, 0] ![32, 512] inb_S1920x512_S32x512_32_0)))⟩,
      ⟨Rect.unit (s := S1920x512) ![0, 0] ![32, 512] inb_S1920x512_S32x512_0_0,
        k0_pay7 (F := Ideal) (k0_pay4 (F := Ideal) (View.ld B (Rect.unit ![0, 0] ![32, 512] inb_S1920x512_S32x512_0_0))) (k0_pay5 (F := Ideal) (View.ld B (Rect.unit ![0, 0] ![32, 512] inb_S1920x512_S32x512_0_0))) (FloatOps.ofBits .f32 0xC7600000#32)⟩] = blockDecoded B := by
  funext y
  have hy : (y 0).val < 1920 := (y 0).isLt
  refine rows_step (blockDecoded B) _ _ rfl _ _ _ y (decoded_piece B 1888 59 rfl (by decide) _ _ _ (decoded59 _)) hy (fun hy => ?_)
  refine rows_step (blockDecoded B) _ _ rfl _ _ _ y (decoded_piece B 1856 58 rfl (by decide) _ _ _ (decoded58 _)) hy (fun hy => ?_)
  refine rows_step (blockDecoded B) _ _ rfl _ _ _ y (decoded_piece B 1824 57 rfl (by decide) _ _ _ (decoded57 _)) hy (fun hy => ?_)
  refine rows_step (blockDecoded B) _ _ rfl _ _ _ y (decoded_piece B 1792 56 rfl (by decide) _ _ _ (decoded56 _)) hy (fun hy => ?_)
  refine rows_step (blockDecoded B) _ _ rfl _ _ _ y (decoded_piece B 1760 55 rfl (by decide) _ _ _ (decoded55 _)) hy (fun hy => ?_)
  refine rows_step (blockDecoded B) _ _ rfl _ _ _ y (decoded_piece B 1728 54 rfl (by decide) _ _ _ (decoded54 _)) hy (fun hy => ?_)
  refine rows_step (blockDecoded B) _ _ rfl _ _ _ y (decoded_piece B 1696 53 rfl (by decide) _ _ _ (decoded53 _)) hy (fun hy => ?_)
  refine rows_step (blockDecoded B) _ _ rfl _ _ _ y (decoded_piece B 1664 52 rfl (by decide) _ _ _ (decoded52 _)) hy (fun hy => ?_)
  refine rows_step (blockDecoded B) _ _ rfl _ _ _ y (decoded_piece B 1632 51 rfl (by decide) _ _ _ (decoded51 _)) hy (fun hy => ?_)
  refine rows_step (blockDecoded B) _ _ rfl _ _ _ y (decoded_piece B 1600 50 rfl (by decide) _ _ _ (decoded50 _)) hy (fun hy => ?_)
  refine rows_step (blockDecoded B) _ _ rfl _ _ _ y (decoded_piece B 1568 49 rfl (by decide) _ _ _ (decoded49 _)) hy (fun hy => ?_)
  refine rows_step (blockDecoded B) _ _ rfl _ _ _ y (decoded_piece B 1536 48 rfl (by decide) _ _ _ (decoded48 _)) hy (fun hy => ?_)
  refine rows_step (blockDecoded B) _ _ rfl _ _ _ y (decoded_piece B 1504 47 rfl (by decide) _ _ _ (decoded47 _)) hy (fun hy => ?_)
  refine rows_step (blockDecoded B) _ _ rfl _ _ _ y (decoded_piece B 1472 46 rfl (by decide) _ _ _ (decoded46 _)) hy (fun hy => ?_)
  refine rows_step (blockDecoded B) _ _ rfl _ _ _ y (decoded_piece B 1440 45 rfl (by decide) _ _ _ (decoded45 _)) hy (fun hy => ?_)
  refine rows_step (blockDecoded B) _ _ rfl _ _ _ y (decoded_piece B 1408 44 rfl (by decide) _ _ _ (decoded44 _)) hy (fun hy => ?_)
  refine rows_step (blockDecoded B) _ _ rfl _ _ _ y (decoded_piece B 1376 43 rfl (by decide) _ _ _ (decoded43 _)) hy (fun hy => ?_)
  refine rows_step (blockDecoded B) _ _ rfl _ _ _ y (decoded_piece B 1344 42 rfl (by decide) _ _ _ (decoded42 _)) hy (fun hy => ?_)
  refine rows_step (blockDecoded B) _ _ rfl _ _ _ y (decoded_piece B 1312 41 rfl (by decide) _ _ _ (decoded41 _)) hy (fun hy => ?_)
  refine rows_step (blockDecoded B) _ _ rfl _ _ _ y (decoded_piece B 1280 40 rfl (by decide) _ _ _ (decoded40 _)) hy (fun hy => ?_)
  refine rows_step (blockDecoded B) _ _ rfl _ _ _ y (decoded_piece B 1248 39 rfl (by decide) _ _ _ (decoded39 _)) hy (fun hy => ?_)
  refine rows_step (blockDecoded B) _ _ rfl _ _ _ y (decoded_piece B 1216 38 rfl (by decide) _ _ _ (decoded38 _)) hy (fun hy => ?_)
  refine rows_step (blockDecoded B) _ _ rfl _ _ _ y (decoded_piece B 1184 37 rfl (by decide) _ _ _ (decoded37 _)) hy (fun hy => ?_)
  refine rows_step (blockDecoded B) _ _ rfl _ _ _ y (decoded_piece B 1152 36 rfl (by decide) _ _ _ (decoded36 _)) hy (fun hy => ?_)
  refine rows_step (blockDecoded B) _ _ rfl _ _ _ y (decoded_piece B 1120 35 rfl (by decide) _ _ _ (decoded35 _)) hy (fun hy => ?_)
  refine rows_step (blockDecoded B) _ _ rfl _ _ _ y (decoded_piece B 1088 34 rfl (by decide) _ _ _ (decoded34 _)) hy (fun hy => ?_)
  refine rows_step (blockDecoded B) _ _ rfl _ _ _ y (decoded_piece B 1056 33 rfl (by decide) _ _ _ (decoded33 _)) hy (fun hy => ?_)
  refine rows_step (blockDecoded B) _ _ rfl _ _ _ y (decoded_piece B 1024 32 rfl (by decide) _ _ _ (decoded32 _)) hy (fun hy => ?_)
  refine rows_step (blockDecoded B) _ _ rfl _ _ _ y (decoded_piece B 992 31 rfl (by decide) _ _ _ (decoded31 _)) hy (fun hy => ?_)
  refine rows_step (blockDecoded B) _ _ rfl _ _ _ y (decoded_piece B 960 30 rfl (by decide) _ _ _ (decoded30 _)) hy (fun hy => ?_)
  refine rows_step (blockDecoded B) _ _ rfl _ _ _ y (decoded_piece B 928 29 rfl (by decide) _ _ _ (decoded29 _)) hy (fun hy => ?_)
  refine rows_step (blockDecoded B) _ _ rfl _ _ _ y (decoded_piece B 896 28 rfl (by decide) _ _ _ (decoded28 _)) hy (fun hy => ?_)
  refine rows_step (blockDecoded B) _ _ rfl _ _ _ y (decoded_piece B 864 27 rfl (by decide) _ _ _ (decoded27 _)) hy (fun hy => ?_)
  refine rows_step (blockDecoded B) _ _ rfl _ _ _ y (decoded_piece B 832 26 rfl (by decide) _ _ _ (decoded26 _)) hy (fun hy => ?_)
  refine rows_step (blockDecoded B) _ _ rfl _ _ _ y (decoded_piece B 800 25 rfl (by decide) _ _ _ (decoded25 _)) hy (fun hy => ?_)
  refine rows_step (blockDecoded B) _ _ rfl _ _ _ y (decoded_piece B 768 24 rfl (by decide) _ _ _ (decoded24 _)) hy (fun hy => ?_)
  refine rows_step (blockDecoded B) _ _ rfl _ _ _ y (decoded_piece B 736 23 rfl (by decide) _ _ _ (decoded23 _)) hy (fun hy => ?_)
  refine rows_step (blockDecoded B) _ _ rfl _ _ _ y (decoded_piece B 704 22 rfl (by decide) _ _ _ (decoded22 _)) hy (fun hy => ?_)
  refine rows_step (blockDecoded B) _ _ rfl _ _ _ y (decoded_piece B 672 21 rfl (by decide) _ _ _ (decoded21 _)) hy (fun hy => ?_)
  refine rows_step (blockDecoded B) _ _ rfl _ _ _ y (decoded_piece B 640 20 rfl (by decide) _ _ _ (decoded20 _)) hy (fun hy => ?_)
  refine rows_step (blockDecoded B) _ _ rfl _ _ _ y (decoded_piece B 608 19 rfl (by decide) _ _ _ (decoded19 _)) hy (fun hy => ?_)
  refine rows_step (blockDecoded B) _ _ rfl _ _ _ y (decoded_piece B 576 18 rfl (by decide) _ _ _ (decoded18 _)) hy (fun hy => ?_)
  refine rows_step (blockDecoded B) _ _ rfl _ _ _ y (decoded_piece B 544 17 rfl (by decide) _ _ _ (decoded17 _)) hy (fun hy => ?_)
  refine rows_step (blockDecoded B) _ _ rfl _ _ _ y (decoded_piece B 512 16 rfl (by decide) _ _ _ (decoded16 _)) hy (fun hy => ?_)
  refine rows_step (blockDecoded B) _ _ rfl _ _ _ y (decoded_piece B 480 15 rfl (by decide) _ _ _ (decoded15 _)) hy (fun hy => ?_)
  refine rows_step (blockDecoded B) _ _ rfl _ _ _ y (decoded_piece B 448 14 rfl (by decide) _ _ _ (decoded14 _)) hy (fun hy => ?_)
  refine rows_step (blockDecoded B) _ _ rfl _ _ _ y (decoded_piece B 416 13 rfl (by decide) _ _ _ (decoded13 _)) hy (fun hy => ?_)
  refine rows_step (blockDecoded B) _ _ rfl _ _ _ y (decoded_piece B 384 12 rfl (by decide) _ _ _ (decoded12 _)) hy (fun hy => ?_)
  refine rows_step (blockDecoded B) _ _ rfl _ _ _ y (decoded_piece B 352 11 rfl (by decide) _ _ _ (decoded11 _)) hy (fun hy => ?_)
  refine rows_step (blockDecoded B) _ _ rfl _ _ _ y (decoded_piece B 320 10 rfl (by decide) _ _ _ (decoded10 _)) hy (fun hy => ?_)
  refine rows_step (blockDecoded B) _ _ rfl _ _ _ y (decoded_piece B 288 9 rfl (by decide) _ _ _ (decoded9 _)) hy (fun hy => ?_)
  refine rows_step (blockDecoded B) _ _ rfl _ _ _ y (decoded_piece B 256 8 rfl (by decide) _ _ _ (decoded8 _)) hy (fun hy => ?_)
  refine rows_step (blockDecoded B) _ _ rfl _ _ _ y (decoded_piece B 224 7 rfl (by decide) _ _ _ (decoded7 _)) hy (fun hy => ?_)
  refine rows_step (blockDecoded B) _ _ rfl _ _ _ y (decoded_piece B 192 6 rfl (by decide) _ _ _ (decoded6 _)) hy (fun hy => ?_)
  refine rows_step (blockDecoded B) _ _ rfl _ _ _ y (decoded_piece B 160 5 rfl (by decide) _ _ _ (decoded5 _)) hy (fun hy => ?_)
  refine rows_step (blockDecoded B) _ _ rfl _ _ _ y (decoded_piece B 128 4 rfl (by decide) _ _ _ (decoded4 _)) hy (fun hy => ?_)
  refine rows_step (blockDecoded B) _ _ rfl _ _ _ y (decoded_piece B 96 3 rfl (by decide) _ _ _ (decoded3 _)) hy (fun hy => ?_)
  refine rows_step (blockDecoded B) _ _ rfl _ _ _ y (decoded_piece B 64 2 rfl (by decide) _ _ _ (decoded2 _)) hy (fun hy => ?_)
  refine rows_step (blockDecoded B) _ _ rfl _ _ _ y (decoded_piece B 32 1 rfl (by decide) _ _ _ (decoded1 _)) hy (fun hy => ?_)
  refine rows_step (blockDecoded B) _ _ rfl _ _ _ y (decoded_piece B 0 0 rfl (by decide) _ _ _ (decoded0 _)) hy (fun hy => ?_)
  exact absurd hy (Nat.not_lt_zero _)

variable (m : (ℓ : Loc nD τ sig) → Buf (Elt Ideal) ℓ)

theorem scales_A (c : Dev nD) (t : Fin cfg0.N) (h : t.val % 37 = 0) :
    (outsAt0 m c t.val t.isLt).2.1 = blockScales (iblk m c 0 t) := by
  rw [outsAt0_A m c t h]; frame_out
  exact canon_scales _
theorem scales_B (c : Dev nD) (t : Fin cfg0.N) (h : ¬ t.val % 37 = 0) :
    (outsAt0 m c t.val t.isLt).2.1 = blockScales (iblk m c 0 t) := by
  rw [outsAt0_B m c t h]; frame_out
  exact canon_scales _
theorem codes_A (c : Dev nD) (t : Fin cfg0.N) (h : t.val % 37 = 0) :
    (outsAt0 m c t.val t.isLt).1 = blockCodes (iblk m c 0 t) := by
  rw [outsAt0_A m c t h]; frame_out
  exact canon_codes _
theorem codes_B (c : Dev nD) (t : Fin cfg0.N) (h : ¬ t.val % 37 = 0) :
    (outsAt0 m c t.val t.isLt).1 = blockCodes (iblk m c 0 t) := by
  rw [outsAt0_B m c t h]; frame_out
  exact canon_codes _
end Cert.WgradIdeal.Value
end
-- ==== Proof.Point.lean ====
/- What one grid point leaves in each output block. -/
module
public import proofs.«01_k».proof.Proof.Groups
@[expose] public section
set_option maxRecDepth 16384
noncomputable section
namespace Cert.WgradIdeal.Value
open Cert.Mx Cert.WgradIdeal Cert.WgradIdeal.Gen Idealize.ShloMosaic Idealize.ShloMosaic.TcCoe Idealize.SL.Sem
open Idealize.ShloMosaic.Pipeline (Dat)
variable (m : (ℓ : Loc nD τ sig) → Buf (Elt Ideal) ℓ)

theorem scales_point (c : Dev nD) (t : Fin cfg0.N) : (outsAt0 m c t.val t.isLt).2.1 = blockScales (iblk m c 0 t) := by
  by_cases h : t.val % 37 = 0
  · exact scales_A m c t h
  · exact scales_B m c t h
theorem codes_point (c : Dev nD) (t : Fin cfg0.N) : (outsAt0 m c t.val t.isLt).1 = blockCodes (iblk m c 0 t) := by
  by_cases h : t.val % 37 = 0
  · exact codes_A m c t h
  · exact codes_B m c t h

/-- Loading the whole of the decoded pieces reads what they make up. -/
theorem load_whole (L : List (View.Piece (Elt Ideal) S1920x512 .bf16)) (G : Vec Ideal S1920x512 .bf16) (h : View.canon L = G) (inb) :
    (View.whole cc0_scratch0).readCov L (Rect.unit (s := S1920x512) ![0, 0] ![1920, 512] inb).toLoadRect = G := by
  rw [View.readCov_eq_canon', h]
  exact View.ld_unit_zero (S := S1920x512) (funext fun a => by match a with | ⟨0, _⟩ => rfl | ⟨1, _⟩ => rfl) inb G

theorem dw_point (c : Dev nD) (t : Fin cfg0.N) :
    (outsAt0 m c t.val t.isLt).2.2.1 = k0_pay318 (iblk m c 1 t) (blockDecoded (iblk m c 0 t)) := by
  by_cases h : t.val % 37 = 0
  · rw [outsAt0_A m c t h]; frame_out
    exact congrArg (k0_pay318 (iblk m c 1 t)) (load_whole _ _ (canon_decoded _) _)
  · rw [outsAt0_B m c t h]; frame_out
    exact congrArg (k0_pay318 (iblk m c 1 t)) (load_whole _ _ (canon_decoded _) _)
theorem dx_point (c : Dev nD) (t : Fin cfg0.N) :
    (outsAt0 m c t.val t.isLt).2.2.2.1 = k0_pay322 (iblk m c 3 t) (iblk m c 2 t) (iblk m c 4 t) := by
  by_cases h : t.val % 37 = 0
  · rw [outsAt0_A m c t h]; frame_out
  · rw [outsAt0_B m c t h]; frame_out
theorem dgamma_A (c : Dev nD) (t : Fin cfg0.N) (h : t.val % 37 = 0) :
    (outsAt0 m c t.val t.isLt).2.2.2.2 = k0_pay1 (BitVec.ofNat 32 (grid0.coords t 0).val) (k0_pay321 (iblk m c 3 t)) (iblk m c 2 t) (k0_pay2 (F := Ideal)) := by
  rw [outsAt0_A m c t h]; frame_out
  rfl
theorem dgamma_B (c : Dev nD) (t : Fin cfg0.N) (h : ¬ t.val % 37 = 0) :
    (outsAt0 m c t.val t.isLt).2.2.2.2 = k0_pay1 (BitVec.ofNat 32 (grid0.coords t 0).val) (k0_pay321 (iblk m c 3 t)) (iblk m c 2 t)
      (outsAt0 m c (t.val - 1) (by omega)).2.2.2.2 := by
  rw [outsAt0_B m c t h]; frame_out
end Cert.WgradIdeal.Value
end
-- ==== Proof.Rows.lean ====
/- The root-mean-square normalisation of one row, and the gradient through it, as functions of the row. -/
module
public import Idealize.ShloMosaic.Lib.Pointwise
@[expose] public section
set_option maxRecDepth 16384
noncomputable section
namespace Cert.Mx
open Idealize.ShloMosaic

/-- The mean of a row of 3584 elements. -/
def mean (f : Fin 3584 → EReal) : EReal := Ideal.div (∑ j, f j) (Ideal.ofBits .f32 0x45600000#32)
/-- The inverse of a row's root mean square. -/
def rinv (x : Fin 3584 → EReal) : EReal := Ideal.rsqrt (mean (fun j => x j * x j) + Ideal.ofBits .f32 0x358637BD#32)
/-- The gradient of a row, from the gradient `d` of its normalised value scaled by `g`. -/
def dxRow (x d g : Fin 3584 → EReal) (c : Fin 3584) : EReal :=
  rinv x * (d c * g c - x c * rinv x * mean (fun j => d j * g j * (x j * rinv x)))

theorem width : Ideal.ofBits .f32 0x45600000#32 = ((3584 : ℝ) : EReal) := by
  simp [Ideal.ofBits, Ideal.ieee, -EReal.coe_mul]
  norm_num

theorem mul_inv_width (x : EReal) : x * ((1 / 3584 : ℝ) : EReal) = Ideal.div x (Ideal.ofBits .f32 0x45600000#32) := by
  rw [width, Ideal.div_coe (by norm_num)]

/-- A two-axis index by its coordinates. -/
theorem ix2_cases {a b : ℕ} (y : (⟨2, ![a, b]⟩ : Shape).Idx) : ∃ (r : Fin a) (q : Fin b), y = ix2 r q := by
  refine ⟨y 0, y 1, funext fun k => ?_⟩
  match k with
  | ⟨0, _⟩ => rfl
  | ⟨1, _⟩ => rfl

end Cert.Mx
end
-- ==== Proof.Final.lean ====
/- The kernel's result arrays, as functions of its arguments. -/
module
public import proofs.«01_k».proof.Proof.Point
public import proofs.«01_k».proof.Proof.Rows
@[expose] public section
set_option maxRecDepth 16384
noncomputable section
namespace Cert.WgradIdeal.Value
open Cert.Mx Cert.WgradIdeal Cert.WgradIdeal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![0, t.val] ∧ win0_1.index t = ![0, 0] ∧ win0_2.index t = ![min t.val 29, 0]
    ∧ win0_3.index t = ![min t.val 29, 0] ∧ win0_4.index t = ![0, 0] ∧ win0_5.index t = ![0, t.val] ∧ win0_6.index t = ![0, t.val]
    ∧ win0_7.index t = ![0, t.val] ∧ win0_8.index t = ![min t.val 29, 0] ∧ win0_9.index t = ![0, 0] :=
  (by decide +kernel : ∀ t : Fin grid0.N, _)

/-- The kernel's ratio of group `g` of column `c`. -/
def ratioOf (D : Vec Ideal S1920x18944 .bf16) (g : Fin 60) (c : Fin 18944) : EReal :=
  Finset.univ.fold max (Ideal.ofBits FTy.f32 0xFF800000#32)
    (fun k : Fin 32 => FloatOps.absf (F := Ideal) (φ := .f32) (D (ix2 ⟨g.val * 32 + k.val, by omega⟩ c)))
    * Ideal.ofBits FTy.f32 0x37924925#32
def scalesOf (D : Vec Ideal S1920x18944 .bf16) : Vec Ideal S60x18944 .f32 := fun y => kscale (ratioOf D (y 0) (y 1))
def codeOf (D : Vec Ideal S1920x18944 .bf16) (r : Fin 1920) (c : Fin 18944) : EReal :=
  kcode (D (ix2 r c)) (ratioOf D ⟨r.val / 32, by omega⟩ c)
def codesOf (D : Vec Ideal S1920x18944 .bf16) : Vec Ideal S1920x18944 .fp8e5m2 := fun y => codeOf D (y 0) (y 1)
def decodedOf (D : Vec Ideal S1920x18944 .bf16) (r : Fin 1920) (c : Fin 18944) : EReal :=
  codeOf D r c * kscale (ratioOf D ⟨r.val / 32, by omega⟩ c)
def dwOf (D : Vec Ideal S1920x18944 .bf16) (X : Vec Ideal S3584x1920 .bf16) : Vec Ideal S3584x18944 .f32 := fun y =>
  ∑ k : Fin 1920, X (ix2 (y 0) k) * decodedOf D k (y 1)

theorem lt37 (t : Fin cfg0.N) : t.val < 37 := t.isLt

theorem dy_block (c : Dev nD) (t : Fin cfg0.N) (r : Fin 1920) (q : Fin 512) : iblk m c 0 t (ix2 r q)
    = m ((c : Thread nD τ).loc main_arg0) (ix2 r ⟨t.val * 512 + q.val, by have := lt37 t; omega⟩) := by
  blk_point [iblk, V, idx t]
theorem x_block (c : Dev nD) (t : Fin cfg0.N) (r : Fin 3584) (q : Fin 1920) : iblk m c 1 t (ix2 r q)
    = m ((c : Thread nD τ).loc main_arg1) (ix2 r q) := by
  blk_point [iblk, V, idx t]
theorem dxn_block (c : Dev nD) (t : Fin cfg0.N) (r : Fin 64) (q : Fin 3584) : iblk m c 2 t (ix2 r q)
    = m ((c : Thread nD τ).loc main_arg2) (ix2 ⟨min t.val 29 * 64 + r.val, by omega⟩ q) := by
  blk_point [iblk, V, idx t]
theorem xrow_block (c : Dev nD) (t : Fin cfg0.N) (r : Fin 64) (q : Fin 3584) : iblk m c 3 t (ix2 r q)
    = m ((c : Thread nD τ).loc main_arg3) (ix2 ⟨min t.val 29 * 64 + r.val, by omega⟩ q) := by
  blk_point [iblk, V, idx t]
theorem gamma_block (c : Dev nD) (t : Fin cfg0.N) (q : Fin 3584) : iblk m c 4 t (ix2 0 q)
    = m ((c : Thread nD τ).loc main_arg4) (ix2 0 q) := by
  blk_point [iblk, V, idx t]

def dxOf (Dn : Vec Ideal S1920x3584 .f32) (X : Vec Ideal S1920x3584 .bf16) (G : Vec Ideal S1x3584 .f32) : Vec Ideal S1920x3584 .bf16 := fun y =>
  dxRow (fun j => X (ix2 (y 0) j)) (fun j => Dn (ix2 (y 0) j)) (fun j => G (ix2 0 j)) (y 1)

theorem block_ratio (c : Dev nD) (t : Fin cfg0.N) (g : Fin 60) (q : Fin 512) :
    blockRatio (iblk m c 0 t) g q = ratioOf (m ((c : Thread nD τ).loc main_arg0)) g ⟨t.val * 512 + q.val, by have := lt37 t; omega⟩ := by
  unfold blockRatio ratioOf
  refine congrArg (fun f => Finset.univ.fold max (Ideal.ofBits FTy.f32 0xFF800000#32) f * Ideal.ofBits FTy.f32 0x37924925#32) (funext fun r => ?_)
  rw [dy_block]
theorem block_code (c : Dev nD) (t : Fin cfg0.N) (r : Fin 1920) (q : Fin 512) :
    blockCodes (iblk m c 0 t) (ix2 r q) = codeOf (m ((c : Thread nD τ).loc main_arg0)) r ⟨t.val * 512 + q.val, by have := lt37 t; omega⟩ := by
  show kcode (iblk m c 0 t (ix2 r q)) (blockRatio (iblk m c 0 t) ⟨r.val / 32, _⟩ q) = _
  rw [dy_block, block_ratio]
  rfl
theorem block_decoded (c : Dev nD) (t : Fin cfg0.N) (r : Fin 1920) (q : Fin 512) :
    blockDecoded (iblk m c 0 t) (ix2 r q) = decodedOf (m ((c : Thread nD τ).loc main_arg0)) r ⟨t.val * 512 + q.val, by have := lt37 t; omega⟩ := by
  show kcode (iblk m c 0 t (ix2 r q)) (blockRatio (iblk m c 0 t) ⟨r.val / 32, _⟩ q) * kscale (blockRatio (iblk m c 0 t) ⟨r.val / 32, _⟩ q) = _
  rw [dy_block, block_ratio]
  rfl
theorem product_at (x : Vec Ideal S3584x1920 .bf16) (w : Vec Ideal S1920x512 .bf16) (r : Fin 3584) (q : Fin 512) :
    k0_pay318 (F := Ideal) x w (ix2 r q) = ∑ k : Fin 1920, x (ix2 r k) * w (ix2 k q) := by
  pointwise [k0_pay318]
theorem inv_width (x : EReal) : x * Named.named (F := Ideal) (φ := .f32) κ "inv_d_model" 0x39924925#32 = Ideal.div x (Ideal.ofBits .f32 0x45600000#32) := by
  rw [IdealRules.named_const.ideal_named_scalar (φ := .f32) κ "inv_d_model" 0x39924925#32 _ rfl]
  exact mul_inv_width x
theorem grad_at (v : Vec Ideal S64x3584 .bf16) (d : Vec Ideal S64x3584 .f32) (g : Vec Ideal S1x3584 .f32) (r : Fin 64) (q : Fin 3584) :
    k0_pay322 (F := Ideal) v d g (ix2 r q) = dxRow (fun j => v (ix2 r j)) (fun j => d (ix2 r j)) (fun j => g (ix2 0 j)) q := by
  pointwise [k0_pay322, k0_pay321, k0_pay320, k0_pay319]
  simp only [inv_width]
  rfl
theorem normal_at (v : Vec Ideal S64x3584 .bf16) (r : Fin 64) (q : Fin 3584) :
    k0_pay321 (F := Ideal) v (ix2 r q) = v (ix2 r q) * rinv (fun j => v (ix2 r j)) := by
  pointwise [k0_pay321, k0_pay320, k0_pay319]
  simp only [inv_width]
  rfl

theorem emb5 (t : Fin cfg0.N) (r : Fin 1920) (q : Fin 512) : (win0_5.blk t).view.emb (ix2 r q)
    = (ix2 r (⟨t.val * 512 + q.val, by have := lt37 t; omega⟩ : Fin 18944) : S1920x18944.Idx) := by
  blk_ext [idx t]
theorem emb6 (t : Fin cfg0.N) (r : Fin 60) (q : Fin 512) : (win0_6.blk t).view.emb (ix2 r q)
    = (ix2 r (⟨t.val * 512 + q.val, by have := lt37 t; omega⟩ : Fin 18944) : S60x18944.Idx) := by
  blk_ext [idx t]
theorem emb7 (t : Fin cfg0.N) (r : Fin 3584) (q : Fin 512) : (win0_7.blk t).view.emb (ix2 r q)
    = (ix2 r (⟨t.val * 512 + q.val, by have := lt37 t; omega⟩ : Fin 18944) : S3584x18944.Idx) := by
  blk_ext [idx t]
theorem emb8 (t : Fin cfg0.N) (r : Fin 64) (q : Fin 3584) : (win0_8.blk t).view.emb (ix2 r q)
    = (ix2 (⟨min t.val 29 * 64 + r.val, by omega⟩ : Fin 1920) q : S1920x3584.Idx) := by
  blk_ext [idx t]

theorem point5 (c : Dev nD) (t : Fin cfg0.N) (r : Fin 1920) (q : Fin 512) : blockCodes (iblk m c 0 t) (ix2 r q)
    = codesOf (m ((c : Thread nD τ).loc main_arg0)) ((win0_5.blk t).view.emb (ix2 r q)) := by
  rw [emb5, block_code]; rfl
theorem point6 (c : Dev nD) (t : Fin cfg0.N) (r : Fin 60) (q : Fin 512) : blockScales (iblk m c 0 t) (ix2 r q)
    = scalesOf (m ((c : Thread nD τ).loc main_arg0)) ((win0_6.blk t).view.emb (ix2 r q)) := by
  rw [emb6]
  exact congrArg kscale (block_ratio m c t r q)
theorem point7 (c : Dev nD) (t : Fin cfg0.N) (r : Fin 3584) (q : Fin 512) :
    k0_pay318 (F := Ideal) (iblk m c 1 t) (blockDecoded (iblk m c 0 t)) (ix2 r q)
    = dwOf (m ((c : Thread nD τ).loc main_arg0)) (m ((c : Thread nD τ).loc main_arg1)) ((win0_7.blk t).view.emb (ix2 r q)) := by
  rw [emb7, product_at]
  exact Finset.sum_congr rfl fun k _ => congrArg₂ (fun a b : EReal => a * b) (x_block m c t r k) (block_decoded m c t k q)
theorem point8 (c : Dev nD) (t : Fin cfg0.N) (r : Fin 64) (q : Fin 3584) :
    k0_pay322 (F := Ideal) (iblk m c 3 t) (iblk m c 2 t) (iblk m c 4 t) (ix2 r q)
    = dxOf (m ((c : Thread nD τ).loc main_arg2)) (m ((c : Thread nD τ).loc main_arg3)) (m ((c : Thread nD τ).loc main_arg4)) ((win0_8.blk t).view.emb (ix2 r q)) := by
  rw [emb8, grad_at, funext (xrow_block m c t r), funext (dxn_block m c t r), funext (gamma_block m c t)]
  rfl

theorem final5 (c : Dev nD) : (dats m 0 c).arrAt 5 cfg0.N = codesOf (m ((c : Thread nD τ).loc main_arg0)) := by
  refine (dats m 0 c).arrAt_eq_of_covers 5 _ (by decide +kernel) fun t _ y => ?_
  blk_simp
  rw [after0_5, codes_point]
  obtain ⟨r, q, rfl⟩ := ix2_cases (a := 1920) (b := 512) y
  exact point5 m c t _ _
theorem final6 (c : Dev nD) : (dats m 0 c).arrAt 6 cfg0.N = scalesOf (m ((c : Thread nD τ).loc main_arg0)) := by
  refine (dats m 0 c).arrAt_eq_of_covers 6 _ (by decide +kernel) fun t _ y => ?_
  blk_simp
  rw [after0_6, scales_point]
  obtain ⟨r, q, rfl⟩ := ix2_cases (a := 60) (b := 512) y
  exact point6 m c t _ _
theorem final7 (c : Dev nD) : (dats m 0 c).arrAt 7 cfg0.N = dwOf (m ((c : Thread nD τ).loc main_arg0)) (m ((c : Thread nD τ).loc main_arg1)) := by
  refine (dats m 0 c).arrAt_eq_of_covers 7 _ (by decide +kernel) fun t _ y => ?_
  blk_simp
  rw [after0_7, dw_point]
  obtain ⟨r, q, rfl⟩ := ix2_cases (a := 3584) (b := 512) y
  exact point7 m c t _ _
theorem final8 (c : Dev nD) : (dats m 0 c).arrAt 8 cfg0.N
    = dxOf (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, dx_point]
  obtain ⟨r, q, rfl⟩ := ix2_cases (a := 64) (b := 3584) y
  exact point8 m c t _ _
/-- One row block's contribution to the gradient of `gamma`. -/
def part (Dn : Vec Ideal S1920x3584 .f32) (X : Vec Ideal S1920x3584 .bf16) (n : ℕ) (q : Fin 3584) : EReal :=
  ∑ r : Fin 64, Dn (ix2 ⟨min n 29 * 64 + r.val, by omega⟩ q)
    * (X (ix2 ⟨min n 29 * 64 + r.val, by omega⟩ q) * rinv (fun j => X (ix2 ⟨min n 29 * 64 + r.val, by omega⟩ j)))
def dgammaOf (Dn : Vec Ideal S1920x3584 .f32) (X : Vec Ideal S1920x3584 .bf16) : Vec Ideal S1x3584 .f32 := fun y =>
  ∑ r : Fin 1920, Dn (ix2 r (y 1)) * (X (ix2 r (y 1)) * rinv (fun j => X (ix2 r j)))

theorem coords_val : ∀ t : Fin cfg0.N, ((grid0.coords t) 0).val = t.val :=
  (by decide +kernel : ∀ t : Fin grid0.N, _)
theorem early : ∀ n : Fin 37, IntOp.cmpi .slt (BitVec.ofNat 32 n.val) 30#32 = if n.val < 30 then 1#1 else 0#1 := by
  decide +kernel
theorem zero_bits : Ideal.ofBits .f32 0x00000000#32 = 0 := by
  simp [Ideal.ofBits, Ideal.ieee]
theorem add_at (b : BitVec 32) (n : Vec Ideal S64x3584 .f32) (d : Vec Ideal S64x3584 .f32) (acc : Vec Ideal S1x3584 .f32) (q : Fin 3584) :
    k0_pay1 (F := Ideal) b n d acc (ix2 0 q) = acc (ix2 0 q) + Scalar.select (IntOp.cmpi .slt b 30#32) (∑ r : Fin 64, d (ix2 r q) * n (ix2 r q)) 0 := by
  pointwise [k0_pay1]
  rfl

theorem block_add (c : Dev nD) (t : Fin cfg0.N) (acc : Vec Ideal S1x3584 .f32) (q : Fin 3584) :
    k0_pay1 (F := Ideal) (BitVec.ofNat 32 ((grid0.coords t) 0).val) (k0_pay321 (iblk m c 3 t)) (iblk m c 2 t) acc (ix2 0 q)
    = acc (ix2 0 q) + if t.val < 30 then part (m ((c : Thread nD τ).loc main_arg2)) (m ((c : Thread nD τ).loc main_arg3)) t.val q else 0 := by
  refine (add_at _ _ _ _ _).trans (congrArg (acc (ix2 0 q) + ·) ?_)
  rw [coords_val, early ⟨t.val, lt37 t⟩]
  by_cases h : t.val < 30
  · rw [if_pos h, if_pos h]
    refine (if_pos rfl).trans (Finset.sum_congr rfl fun r _ => ?_)
    rw [normal_at, dxn_block, funext (xrow_block m c t r), xrow_block]
  · rw [if_neg h, if_neg h]
    exact if_neg (by decide)

/-- The running sum of the row blocks' contributions. -/
theorem running (c : Dev nD) (q : Fin 3584) : ∀ (n : ℕ) (h : n < cfg0.N), (outsAt0 m c n h).2.2.2.2 (ix2 0 q)
    = ∑ i ∈ Finset.range (n + 1), if i < 30 then part (m ((c : Thread nD τ).loc main_arg2)) (m ((c : Thread nD τ).loc main_arg3)) i q else 0
  | 0, h => by
    refine (congrFun (dgamma_A m c ⟨0, h⟩ rfl) _).trans ((block_add m c ⟨0, h⟩ _ q).trans ?_)
    rw [Finset.sum_range_succ, Finset.sum_range_zero]
    exact congrArg (· + _) zero_bits
  | n + 1, h => by
    have hB : ¬ (⟨n + 1, h⟩ : Fin cfg0.N).val % 37 = 0 := by
      have := lt37 ⟨n + 1, h⟩
      dsimp only at this ⊢
      omega
    refine (congrFun (dgamma_B m c ⟨n + 1, h⟩ hB) _).trans ((block_add m c ⟨n + 1, h⟩ _ q).trans ?_)
    rw [Finset.sum_range_succ]
    exact congrArg (· + _) (running c q n _)

theorem total (Dn : Vec Ideal S1920x3584 .f32) (X : Vec Ideal S1920x3584 .bf16) (q : Fin 3584) :
    (∑ i ∈ Finset.range 37, if i < 30 then part Dn X i q else 0)
      = ∑ r : Fin 1920, Dn (ix2 r q) * (X (ix2 r q) * rinv (fun j => X (ix2 r j))) := by
  rw [Fin.sum_univ_tiles 30 64 rfl]
  have h1 : (∑ i ∈ Finset.range 37, if i < 30 then part Dn X i q else 0) = ∑ i ∈ Finset.range 30, if i < 30 then part Dn X i q else 0 := by
    refine (Finset.sum_subset (fun i hi => Finset.mem_range.mpr ?_) fun i _ hi => if_neg ?_).symm
    · have := Finset.mem_range.mp hi; omega
    · exact fun hh => hi (Finset.mem_range.mpr hh)
  rw [h1, Finset.sum_range]
  refine Finset.sum_congr rfl fun i _ => ?_
  rw [if_pos i.isLt]
  refine Finset.sum_congr rfl fun r _ => ?_
  have e : ∀ h h', (⟨min i.val 29 * 64 + r.val, h⟩ : Fin 1920) = ⟨i.val * 64 + r.val, h'⟩ := fun _ _ =>
    Fin.ext (by show min i.val 29 * 64 + r.val = i.val * 64 + r.val; rw [Nat.min_eq_left (by omega)])
  rw [e _ (by omega)]

theorem emb9 (t : Fin cfg0.N) (q : Fin 3584) : (win0_9.blk t).view.emb (ix2 (0 : Fin 1) q) = (ix2 (0 : Fin 1) q : S1x3584.Idx) := by
  blk_ext [idx t]
theorem final9 (c : Dev nD) : (dats m 0 c).arrAt 9 cfg0.N
    = dgammaOf (m ((c : Thread nD τ).loc main_arg2)) (m ((c : Thread nD τ).loc main_arg3)) := by
  refine (dats m 0 c).arrAt_eq_of_covers 9 _ (by decide +kernel) fun t hf y => ?_
  have ht : t.val = 36 := by
    have := (flush0_9 t).mp hf
    have := lt37 t
    omega
  blk_simp
  rw [after0_9]
  obtain ⟨r, q, rfl⟩ := ix2_cases (a := 1) (b := 3584) y
  obtain rfl : r = 0 := Subsingleton.elim _ _
  rw [emb9]
  exact (running m c q t.val t.isLt).trans (by rw [ht]; exact total _ _ q)
end Cert.WgradIdeal.Value
end
-- ==== Proof.Elementwise.lean ====
/- The elementwise vector operations at an index, at the extended reals, for any shape: each equation is stated at
   variables, so that its uses on long vectors never look into the operands. -/
module

public import Idealize.ShloMosaic.Lib.Pointwise

@[expose] public section

noncomputable section

namespace Cert.Mx

open Idealize.ShloMosaic

variable {s : Shape} {φ : FTy}

theorem mulf_at (a b : FVec Ideal s φ) (i : s.Idx) : mulf a b i = (show EReal from a i) * (show EReal from b i) := rfl
theorem subf_at (a b : FVec Ideal s φ) (i : s.Idx) : subf a b i = (show EReal from a i) - (show EReal from b i) := rfl
theorem divf_at (a b : FVec Ideal s φ) (i : s.Idx) : divf a b i = Ideal.div (a i) (b i) := rfl
theorem absf_at (a : FVec Ideal s φ) (i : s.Idx) : absf a i = FloatOps.absf (a i) := rfl
theorem maximumf_at (a b : FVec Ideal s φ) (i : s.Idx) : maximumf a b i = max (show EReal from a i) (show EReal from b i) := rfl
theorem minimumf_at (a b : FVec Ideal s φ) (i : s.Idx) : minimumf a b i = min (show EReal from a i) (show EReal from b i) := rfl
theorem exp2_at (a : FVec Ideal s φ) (i : s.Idx) : exp2 a i = FloatOps.exp2 (a i) := rfl
theorem sitofp_at {w : Nat} (a : IVec s w) (i : s.Idx) : sitofp (F := Ideal) φ a i = FloatOps.sitofp (F := Ideal) φ (a i) := rfl
theorem subi_at {w : Nat} (a b : IVec s w) (i : s.Idx) : subi a b i = IntOp.subi (a i) (b i) := rfl
theorem truncf_at {φ' : FTy} (a : FVec Ideal s φ) (h : φ'.bits < φ.bits) (i : s.Idx) : truncf φ' a h i = (show EReal from a i) := rfl
theorem extf_at {φ' : FTy} (a : FVec Ideal s φ) (h : φ.bits < φ'.bits) (i : s.Idx) : extf φ' a h i = (show EReal from a i) := rfl
theorem broadcast_at {α : Type} (c : α) (i : s.Idx) : broadcast s c i = c := rfl

theorem select_lt (a b : FVec Ideal s φ) {α : Type} (x y : s.Idx → α) (i : s.Idx) :
    select (cmpf .olt a b) x y i = if (show EReal from a i) < (show EReal from b i) then x i else y i := by
  change (if BitVec.ofBool (decide ((show EReal from a i) < (show EReal from b i))) = 1#1 then x i else y i) = _
  by_cases h : (show EReal from a i) < (show EReal from b i) <;> simp [h]

theorem select_gt (a b : FVec Ideal s φ) {α : Type} (x y : s.Idx → α) (i : s.Idx) :
    select (cmpf .ogt a b) x y i = if (show EReal from b i) < (show EReal from a i) then x i else y i := by
  change (if BitVec.ofBool (decide ((show EReal from b i) < (show EReal from a i))) = 1#1 then x i else y i) = _
  by_cases h : (show EReal from b i) < (show EReal from a i) <;> simp [h]

end Cert.Mx

end
-- ==== Proof.RefValue.lean ====
/- The reference's results at an index: each payload of its one grid point, read element by element. -/
module
public import proofs.«01_k».proof.Proof.Gen.WgradRefIdeal.Skeleton
public import Idealize.ShloMosaic.Lib.Pointwise
public import Idealize.ShloMosaic.Lib.Pipeline.Value
public import proofs.«01_k».proof.Proof.Scale
public import proofs.«01_k».proof.Proof.Elementwise
public import proofs.«01_k».proof.Proof.Rows
@[expose] public section
set_option maxRecDepth 16384
noncomputable section
namespace Cert.WgradRefIdeal.Value
open Cert.Mx Cert.WgradRefIdeal Cert.WgradRefIdeal.Gen Idealize.ShloMosaic Idealize.ShloMosaic.TcCoe Idealize.SL.Sem

theorem groups_at {α : Type} (x : S1920x18944.Idx → α) (g : Fin 60) (r : Fin 32) (c : Fin 18944) : shapeCast S60x32x18944 x shapeCasts_S1920x18944_S60x32x18944 (ix3 g r c) = x (ix2 ⟨g.val * 32 + r.val, by omega⟩ c) := by
  refine shapeCast_apply _ _ _ _ ?_
  rw [Shape.rowMajor_val_three, Shape.rowMajor_val_two]
  show (g.val * 32 + r.val) * 18944 + c.val = (g.val * 32 + r.val) * 18944 + c.val
  rfl
theorem rows_at {α : Type} (x : S60x32x18944.Idx → α) (r : Fin 1920) (c : Fin 18944) : shapeCast S1920x18944 x shapeCasts_S60x32x18944_S1920x18944 (ix2 r c) = x (ix3 ⟨r.val / 32, by omega⟩ ⟨r.val % 32, by omega⟩ c) := by
  refine shapeCast_apply _ _ _ _ ?_
  rw [Shape.rowMajor_val_three, Shape.rowMajor_val_two]
  show (r.val / 32 * 32 + r.val % 32) * 18944 + c.val = r.val * 18944 + c.val
  omega
theorem unit1_at {α : Type} (x : S60x18944.Idx → α) (g : Fin 60) (c : Fin 18944) : shapeCast S60x1x18944 x shapeCasts_S60x18944_S60x1x18944 (ix3 g 0 c) = x (ix2 g c) := by
  refine shapeCast_apply _ _ _ _ ?_
  rw [Shape.rowMajor_val_three, Shape.rowMajor_val_two]
  show g.val * 18944 + c.val = (g.val * 1 + 0) * 18944 + c.val
  omega
theorem unit0_at {α : Type} (x : S60x18944.Idx → α) (g : Fin 60) (c : Fin 18944) : shapeCast S1x60x18944 x shapeCasts_S60x18944_S1x60x18944 (ix3 0 g c) = x (ix2 g c) := by
  refine shapeCast_apply _ _ _ _ ?_
  rw [Shape.rowMajor_val_three, Shape.rowMajor_val_two]
  show g.val * 18944 + c.val = (0 * 60 + g.val) * 18944 + c.val
  omega

theorem red_max (x : FVec Ideal S60x32x18944 .f32) (g : Fin 60) (c : Fin 18944) :
    (multiReduction .maximumf [1] S60x18944 x 0xFF800000#32 reduces_S60x32x18944_S60x18944 (.inl rfl) rfl) (ix2 g c)
      = Finset.univ.fold max (Ideal.ofBits FTy.f32 0xFF800000#32) (fun k : Fin 32 => x (ix3 g k c)) := by
  pointwise
theorem red_min (x : FVec Ideal S254x60x18944 .f32) (g : Fin 60) (c : Fin 18944) :
    (multiReduction .minimumf [0] S60x18944 x 0x7F800000#32 reduces_S254x60x18944_S60x18944 (.inl rfl) rfl) (ix2 g c)
      = Finset.univ.fold min (Ideal.ofBits FTy.f32 0x7F800000#32) (fun k : Fin 254 => x (ix3 k g c)) := by
  pointwise
theorem spread1 {α : Type} (x : S60x1x18944.Idx → α) (g : Fin 60) (r : Fin 32) (c : Fin 18944) :
    broadcastTo S60x32x18944 x broadcasts_S60x1x18944_S60x32x18944 (ix3 g r c) = x (ix3 g 0 c) := by
  pointwise
theorem spread2 {α : Type} (x : S1x60x18944.Idx → α) (g : Fin 60) (r : Fin 254) (c : Fin 18944) :
    broadcastTo S254x60x18944 x broadcasts_S1x60x18944_S254x60x18944 (ix3 r g c) = x (ix3 0 g c) := by
  pointwise
theorem iota_at (g : Fin 60) (r : Fin 254) (c : Fin 18944) :
    iota .tc S254x60x18944 32 [0] iota_S254x60x18944_d0_w32 (ix3 r g c) = BitVec.ofNat 32 r.val := by
  pointwise

/-- The largest magnitude of group `g` of column `c`, times the reciprocal of the format's largest value. -/
def ratio (v : Vec Ideal S1920x18944 .bf16) (g : Fin 60) (c : Fin 18944) : EReal :=
  Finset.univ.fold max (Ideal.ofBits FTy.f32 0xFF800000#32)
    (fun k : Fin 32 => FloatOps.absf (F := Ideal) (φ := .f32) (v (ix2 ⟨g.val * 32 + k.val, by omega⟩ c)))
    * Ideal.ofBits FTy.f32 0x37924925#32

theorem pay7_at (v : Vec Ideal S1920x18944 .bf16) (g : Fin 60) (r : Fin 32) (c : Fin 18944) :
    k0_pay7 (F := Ideal) v (ix3 g r c) = v (ix2 ⟨g.val * 32 + r.val, by omega⟩ c) :=
  groups_at _ g r c

/-- The vector of all the groups' ratios. -/
def ratios (v : Vec Ideal S1920x18944 .bf16) : FVec Ideal S60x18944 .f32 :=
  mulf (multiReduction .maximumf [1] S60x18944 (absf (k0_pay7 (F := Ideal) v)) 0xFF800000#32
    reduces_S60x32x18944_S60x18944 (.inl rfl) rfl) (broadcast S60x18944 (Scalar.ofBits .f32 0x37924925#32))

/-- The vector of all the powers of two, one row each. -/
def powers : FVec Ideal S254x60x18944 .f32 :=
  exp2 (sitofp .f32 (subi (iota .tc S254x60x18944 32 [0] iota_S254x60x18944_d0_w32) (broadcast S254x60x18944 126#32)))

theorem ratios_at (v : Vec Ideal S1920x18944 .bf16) (g : Fin 60) (c : Fin 18944) : ratios v (ix2 g c) = ratio v g c := by
  have h : ∀ k : Fin 32, absf (k0_pay7 (F := Ideal) v) (ix3 g k c)
      = FloatOps.absf (F := Ideal) (φ := .f32) (v (ix2 ⟨g.val * 32 + k.val, by omega⟩ c)) := by
    intro k
    rw [absf_at, pay7_at]
  unfold ratios ratio
  rw [mulf_at, red_max, broadcast_at, funext h]
  rfl

theorem powers_at (k : Fin 254) (g : Fin 60) (c : Fin 18944) : powers (ix3 k g c) = power k := by
  unfold powers power
  rw [exp2_at, sitofp_at, subi_at, iota_at, broadcast_at]

theorem pay8_eq (v : Vec Ideal S1920x18944 .bf16) : k0_pay8 (F := Ideal) v =
    select (cmpf .olt (ratios v) (broadcast S60x18944 (Scalar.ofBits .f32 0x00800000#32)))
      (broadcast S60x18944 (Scalar.ofBits .f32 0x3F800000#32))
      (multiReduction .minimumf [0] S60x18944
        (select (cmpf .ogt powers (broadcastTo S254x60x18944 (shapeCast S1x60x18944 (ratios v) shapeCasts_S60x18944_S1x60x18944)
            broadcasts_S1x60x18944_S254x60x18944)) powers (broadcast S254x60x18944 (Scalar.ofBits .f32 0x7F800000#32)))
        0x7F800000#32 reduces_S254x60x18944_S60x18944 (.inl rfl) rfl) := rfl

theorem one_bits : (Scalar.ofBits (F := Ideal) .f32 0x3F800000#32 : EReal) = 1 := by
  change Ideal.ofBits .f32 0x3F800000#32 = 1
  simp [Ideal.ofBits, Ideal.ieee, -EReal.coe_mul]; norm_num

/-- The reference's scale of group `g` of column `c`. -/
theorem scale_at (v : Vec Ideal S1920x18944 .bf16) (g : Fin 60) (c : Fin 18944) :
    k0_pay8 (F := Ideal) v (ix2 g c) = rscale (ratio v g c) := by
  have h : ∀ k : Fin 254, select (cmpf .ogt powers (broadcastTo S254x60x18944 (shapeCast S1x60x18944 (ratios v)
      shapeCasts_S60x18944_S1x60x18944) broadcasts_S1x60x18944_S254x60x18944)) powers
      (broadcast S254x60x18944 (Scalar.ofBits .f32 0x7F800000#32)) (ix3 k g c)
      = (if ratio v g c < power k then power k else Ideal.ofBits .f32 0x7F800000#32) := by
    intro k
    rw [select_gt, spread2, unit0_at, ratios_at, powers_at, broadcast_at]
    rfl
  rw [pay8_eq, select_lt, red_min, funext h, ratios_at, broadcast_at, broadcast_at, one_bits]
  rfl

/-- The clipped quotient by the scale. -/
def code (x scale : EReal) : EReal :=
  min (Ideal.ofBits .f32 0x47600000#32) (max (Ideal.ofBits .f32 0xC7600000#32) (x * Ideal.div 1 scale))

theorem pay9_eq (v : Vec Ideal S1920x18944 .bf16) : k0_pay9 (F := Ideal) v =
    truncf .fp8e5m2 (minimumf (broadcast S60x32x18944 (Scalar.ofBits .f32 0x47600000#32))
      (maximumf (broadcast S60x32x18944 (Scalar.ofBits .f32 0xC7600000#32)) (mulf (k0_pay7 v)
        (broadcastTo S60x32x18944 (shapeCast S60x1x18944 (divf (broadcast S60x18944 (Scalar.ofBits .f32 0x3F800000#32)) (k0_pay8 v))
          shapeCasts_S60x18944_S60x1x18944) broadcasts_S60x1x18944_S60x32x18944)))) bitsLt_fp8e5m2_f32 := rfl

theorem pay9_at (v : Vec Ideal S1920x18944 .bf16) (g : Fin 60) (r : Fin 32) (c : Fin 18944) :
    k0_pay9 (F := Ideal) v (ix3 g r c) = code (v (ix2 ⟨g.val * 32 + r.val, by omega⟩ c)) (rscale (ratio v g c)) := by
  rw [pay9_eq, truncf_at, minimumf_at, broadcast_at, maximumf_at, broadcast_at, mulf_at, pay7_at, spread1, unit1_at, divf_at,
    broadcast_at, scale_at, one_bits]
  rfl

/-- The reference's code of row `r` of column `c`. -/
theorem code_at (v : Vec Ideal S1920x18944 .bf16) (r : Fin 1920) (c : Fin 18944) :
    k0_pay10 (F := Ideal) v (ix2 r c) = code (v (ix2 r c)) (rscale (ratio v ⟨r.val / 32, by omega⟩ c)) := by
  have h : k0_pay10 (F := Ideal) v = shapeCast S1920x18944 (k0_pay9 v) shapeCasts_S60x32x18944_S1920x18944 := rfl
  rw [h, rows_at, pay9_at]
  congr 3
  exact Fin.ext (Nat.div_add_mod' r.val 32)

theorem pay11_eq (v : Vec Ideal S1920x18944 .bf16) : k0_pay11 (F := Ideal) v =
    shapeCast S1920x18944 (mulf (extf .bf16 (k0_pay9 v) bitsLt_fp8e5m2_bf16) (broadcastTo S60x32x18944
      (shapeCast S60x1x18944 (truncf .bf16 (k0_pay8 v) bitsLt_bf16_f32) shapeCasts_S60x18944_S60x1x18944)
      broadcasts_S60x1x18944_S60x32x18944)) shapeCasts_S60x32x18944_S1920x18944 := rfl

/-- The reference's decoded value of row `r` of column `c`. -/
theorem decoded_at (v : Vec Ideal S1920x18944 .bf16) (r : Fin 1920) (c : Fin 18944) :
    k0_pay11 (F := Ideal) v (ix2 r c) = code (v (ix2 r c)) (rscale (ratio v ⟨r.val / 32, by omega⟩ c))
      * rscale (ratio v ⟨r.val / 32, by omega⟩ c) := by
  rw [pay11_eq, rows_at, mulf_at, extf_at, pay9_at, spread1, unit1_at, truncf_at, scale_at]
  have h : (⟨r.val / 32 * 32 + r.val % 32, by omega⟩ : Fin 1920) = r := Fin.ext (Nat.div_add_mod' r.val 32)
  simp only [h]

/-- The reference's product at an index. -/
theorem dw_at (w : FVec Ideal S1920x18944 .bf16) (x : Vec Ideal S3584x1920 .bf16) (r : Fin 3584) (c : Fin 18944) :
    k0_pay1 (F := Ideal) w x (ix2 r c) = ∑ k : Fin 1920, x (ix2 r k) * w (ix2 k c) := by
  pointwise [k0_pay1]

/-- The reference's gradient of `x` at an index. -/
theorem dx_at (v : Vec Ideal S1920x3584 .bf16) (d : Vec Ideal S1920x3584 .f32) (g : Vec Ideal S1x3584 .f32) (r : Fin 1920) (c : Fin 3584) :
    k0_pay5 (F := Ideal) v d g (ix2 r c) = dxRow (fun j => v (ix2 r j)) (fun j => d (ix2 r j)) (fun j => g (ix2 0 j)) c := by
  pointwise [k0_pay5, k0_pay4, k0_pay3, k0_pay2]
  rfl

/-- The reference's gradient of `gamma` at an index. -/
theorem dgamma_at (v : Vec Ideal S1920x3584 .bf16) (d : Vec Ideal S1920x3584 .f32) (c : Fin 3584) :
    k0_pay6 (F := Ideal) v d (ix2 0 c) = ∑ r : Fin 1920, d (ix2 r c) * (v (ix2 r c) * rinv (fun j => v (ix2 r j))) := by
  pointwise [k0_pay6, k0_pay4, k0_pay3, k0_pay2]
  rfl

end Cert.WgradRefIdeal.Value
end
-- ==== Proof.Equation.lean ====
/- Kernel and reference leave the same arrays, where `dy` is finite. -/
module
public import proofs.«01_k».proof.Defs
public import proofs.«01_k».proof.Proof.Final
public import proofs.«01_k».proof.Proof.RefValue
public import proofs.«01_k».proof.Proof.Gen.WgradRefIdeal.Value
public import proofs.«01_k».proof.Proof.Gen.Pre_dy_finite
@[expose] public section
set_option maxRecDepth 16384
noncomputable section
namespace Cert.Equation
open Cert.Mx Idealize.ShloMosaic Idealize.ShloMosaic.TcCoe Idealize.SL.Sem

theorem low_bits : Ideal.ofBits .f32 0xFF800000#32 = ⊥ := by
  simp [Ideal.ofBits, Ideal.ieee]
theorem third_bits : Ideal.ofBits .f32 0x37924925#32 = ((9586981 * (2 : ℝ) ^ (-39 : ℤ) : ℝ) : EReal) := by
  simp [Ideal.ofBits, Ideal.ieee, -EReal.coe_mul]
theorem most_bits : Ideal.ofBits .f32 0x7F7F0000#32 = ((16711680 * (2 : ℝ) ^ (104 : ℤ) : ℝ) : EReal) := by
  simp [Ideal.ofBits, Ideal.ieee, -EReal.coe_mul]

/-- Of a group of finite values the ratio is a real below `2 ^ 126`. -/
theorem ratio_real (f : Fin 32 → EReal) (hf : ∀ k, max (f k) (-(f k)) ≤ Ideal.ofBits .f32 0x7F7F0000#32) :
    ∃ x : ℝ, 0 ≤ x ∧ x < (2 : ℝ) ^ (126 : ℤ) ∧
      Finset.univ.fold max (Ideal.ofBits FTy.f32 0xFF800000#32) (fun k => FloatOps.absf (F := Ideal) (φ := .f32) (f k))
        * Ideal.ofBits FTy.f32 0x37924925#32 = (x : EReal) := by
  have hle : Finset.univ.fold max (Ideal.ofBits FTy.f32 0xFF800000#32) (fun k => FloatOps.absf (F := Ideal) (φ := .f32) (f k))
      ≤ Ideal.ofBits .f32 0x7F7F0000#32 := by
    rw [Finset.fold_max_le]
    exact ⟨by rw [low_bits]; exact bot_le, fun k _ => hf k⟩
  have hge : (0 : EReal) ≤ Finset.univ.fold max (Ideal.ofBits FTy.f32 0xFF800000#32) (fun k => FloatOps.absf (F := Ideal) (φ := .f32) (f k)) := by
    rw [Finset.le_fold_max]
    refine .inr ⟨0, Finset.mem_univ _, ?_⟩
    show (0 : EReal) ≤ max (f 0) (-(f 0))
    rcases le_total 0 (f 0) with h | h
    · exact h.trans (le_max_left _ _)
    · exact (EReal.neg_nonneg.mpr h).trans (le_max_right _ _)
  generalize Finset.univ.fold max (Ideal.ofBits FTy.f32 0xFF800000#32) (fun k => FloatOps.absf (F := Ideal) (φ := .f32) (f k)) = M at hle hge ⊢
  rw [most_bits] at hle
  have hM : M = ((M.toReal : ℝ) : EReal) := (EReal.coe_toReal (ne_top_of_le_ne_top (EReal.coe_ne_top _) hle)
    (ne_bot_of_le_ne_bot (EReal.zero_ne_bot) hge)).symm
  rw [hM] at hle hge ⊢
  have h1 := EReal.coe_le_coe_iff.mp hle
  have h0 := EReal.coe_nonneg.mp hge
  refine ⟨M.toReal * (9586981 * (2 : ℝ) ^ (-39 : ℤ)), by positivity, ?_, by rw [third_bits, ← EReal.coe_mul]⟩
  refine (mul_le_mul_of_nonneg_right h1 (by positivity)).trans_lt ?_
  norm_num

theorem finite_of_pre (D : FVec Ideal Cert.Pre_dy_finite.S1920x18944 .bf16) (a1 a2 a3 a4)
    (h : @Cert.Pre_dy_finite.fn Cert.Pre_dy_finite.Gen.facts Ideal _ D a1 a2 a3 a4 = fun _ => 1#1) (i) :
    max (D i) (-(D i)) ≤ Ideal.ofBits .f32 0x7F7F0000#32 := by
  have hi := congrFun h i
  by_contra hc
  have e : @Cert.Pre_dy_finite.fn Cert.Pre_dy_finite.Gen.facts Ideal _ D a1 a2 a3 a4 i
      = BitVec.ofBool (decide (max (D i) (-(D i)) ≤ Ideal.ofBits .f32 0x7F7F0000#32)) := rfl
  rw [e, decide_eq_false hc] at hi
  exact absurd hi (by decide)

section
open Cert.WgradIdeal.Value (kcode ratioOf scalesOf codeOf codesOf decodedOf dwOf dxOf dgammaOf)
open Cert.WgradRefIdeal.Value
variable (D : Vec Ideal Cert.WgradIdeal.S1920x18944 .bf16) (hD : ∀ i, max (D i) (-(D i)) ≤ Ideal.ofBits .f32 0x7F7F0000#32)
include hD

theorem scale_same (g : Fin 60) (c : Fin 18944) : kscale (ratioOf D g c) = rscale (ratio D g c) := by
  obtain ⟨x, h0, h1, e⟩ := ratio_real (fun k : Fin 32 => D (ix2 ⟨g.val * 32 + k.val, by omega⟩ c)) (fun _ => hD _)
  have e1 : ratioOf D g c = (x : EReal) := e
  have e2 : ratio D g c = (x : EReal) := e
  rw [e1, e2, kscale_eq x h0 h1]
theorem inv_same (g : Fin 60) (c : Fin 18944) : kinv (ratioOf D g c) = Ideal.div 1 (rscale (ratio D g c)) := by
  obtain ⟨x, h0, h1, e⟩ := ratio_real (fun k : Fin 32 => D (ix2 ⟨g.val * 32 + k.val, by omega⟩ c)) (fun _ => hD _)
  have e1 : ratioOf D g c = (x : EReal) := e
  have e2 : ratio D g c = (x : EReal) := e
  rw [e1, e2, kinv_eq x h0 h1]
theorem code_same (r : Fin 1920) (c : Fin 18944) : codeOf D r c = code (D (ix2 r c)) (rscale (ratio D ⟨r.val / 32, by omega⟩ c)) := by
  unfold codeOf kcode code
  rw [inv_same D hD]
theorem decoded_same (r : Fin 1920) (c : Fin 18944) : decodedOf D r c = code (D (ix2 r c)) (rscale (ratio D ⟨r.val / 32, by omega⟩ c))
    * rscale (ratio D ⟨r.val / 32, by omega⟩ c) := by
  unfold decodedOf
  rw [code_same D hD, scale_same D hD]

theorem codes_equal : codesOf D = Cert.WgradRefIdeal.Gen.k0_pay10 (F := Ideal) D := by
  funext y
  obtain ⟨r, c, rfl⟩ := ix2_cases (a := 1920) (b := 18944) y
  exact (code_same D hD r c).trans (code_at D r c).symm
theorem scales_equal : scalesOf D = Cert.WgradRefIdeal.Gen.k0_pay8 (F := Ideal) D := by
  funext y
  obtain ⟨g, c, rfl⟩ := ix2_cases (a := 60) (b := 18944) y
  exact (scale_same D hD g c).trans (scale_at D g c).symm
theorem dw_equal (X : Vec Ideal Cert.WgradIdeal.S3584x1920 .bf16) :
    dwOf D X = Cert.WgradRefIdeal.Gen.k0_pay1 (F := Ideal) (Cert.WgradRefIdeal.Gen.k0_pay11 D) X := by
  funext y
  obtain ⟨r, c, rfl⟩ := ix2_cases (a := 3584) (b := 18944) y
  refine Eq.trans ?_ (dw_at (Cert.WgradRefIdeal.Gen.k0_pay11 (F := Ideal) D) X r c).symm
  exact Finset.sum_congr rfl fun k _ => congrArg (fun b : EReal => X (ix2 r k) * b)
    ((decoded_same D hD k c).trans (decoded_at D k c).symm)
end

theorem dx_equal (Dn : Vec Ideal Cert.WgradIdeal.S1920x3584 .f32) (X : Vec Ideal Cert.WgradIdeal.S1920x3584 .bf16) (G : Vec Ideal Cert.WgradIdeal.S1x3584 .f32) :
    Cert.WgradIdeal.Value.dxOf Dn X G = Cert.WgradRefIdeal.Gen.k0_pay5 (F := Ideal) X Dn G := by
  funext y
  obtain ⟨r, c, rfl⟩ := ix2_cases (a := 1920) (b := 3584) y
  exact (Cert.WgradRefIdeal.Value.dx_at X Dn G r c).symm
theorem dgamma_equal (Dn : Vec Ideal Cert.WgradIdeal.S1920x3584 .f32) (X : Vec Ideal Cert.WgradIdeal.S1920x3584 .bf16) :
    Cert.WgradIdeal.Value.dgammaOf Dn X = Cert.WgradRefIdeal.Gen.k0_pay6 (F := Ideal) X Dn := by
  funext y
  obtain ⟨r, c, rfl⟩ := ix2_cases (a := 1) (b := 3584) y
  obtain rfl : r = 0 := Subsingleton.elim _ _
  exact (Cert.WgradRefIdeal.Value.dgamma_at X Dn c).symm

end Cert.Equation
end
-- ==== Proof.Algebraic.lean ====
/- The algebraic claim: both runs, and the five result arrays equal. -/
module
public import proofs.«01_k».proof.Proof.Equation
public import proofs.«01_k».proof.Proof.Gen.Wgrad
public import proofs.«01_k».proof.Proof.Gen.WgradIdeal.Value
public import Idealize.ShloMosaic.Lib.Claim
@[expose] public section
set_option maxRecDepth 16384
noncomputable section
namespace Cert.Equation
open Cert.Mx Idealize.ShloMosaic Idealize.ShloMosaic.TcCoe Idealize.SL.Sem

theorem algebraic : Cert.algebraic_WgradIdeal_WgradRefIdeal_pre_dy_finite (hWgradIdeal := Cert.WgradIdeal.Gen.facts)
    (hWgradRefIdeal := Cert.WgradRefIdeal.Gen.facts) (hPre_dy_finite := Cert.Pre_dy_finite.Gen.facts) := by
  intro m g m' g' hpre hagree
  have hD := fun c i => finite_of_pre _ _ _ _ _ (hpre c) i
  refine ⟨fun c => Cert.WgradRefIdeal.Gen.k0_pay10 (F := Ideal) (m ((c.tc : Thread Cert.WgradIdeal.nD Cert.WgradIdeal.τ).loc Cert.WgradIdeal.main_arg0)),
    fun c => Cert.WgradRefIdeal.Gen.k0_pay8 (F := Ideal) (m ((c.tc : Thread Cert.WgradIdeal.nD Cert.WgradIdeal.τ).loc Cert.WgradIdeal.main_arg0)),
    fun c => Cert.WgradRefIdeal.Gen.k0_pay1 (F := Ideal)
      (Cert.WgradRefIdeal.Gen.k0_pay11 (m ((c.tc : Thread Cert.WgradIdeal.nD Cert.WgradIdeal.τ).loc Cert.WgradIdeal.main_arg0)))
      (m ((c.tc : Thread Cert.WgradIdeal.nD Cert.WgradIdeal.τ).loc Cert.WgradIdeal.main_arg1)),
    fun c => Cert.WgradRefIdeal.Gen.k0_pay5 (F := Ideal) (m ((c.tc : Thread Cert.WgradIdeal.nD Cert.WgradIdeal.τ).loc Cert.WgradIdeal.main_arg3))
      (m ((c.tc : Thread Cert.WgradIdeal.nD Cert.WgradIdeal.τ).loc Cert.WgradIdeal.main_arg2))
      (m ((c.tc : Thread Cert.WgradIdeal.nD Cert.WgradIdeal.τ).loc Cert.WgradIdeal.main_arg4)),
    fun c => Cert.WgradRefIdeal.Gen.k0_pay6 (F := Ideal) (m ((c.tc : Thread Cert.WgradIdeal.nD Cert.WgradIdeal.τ).loc Cert.WgradIdeal.main_arg3))
      (m ((c.tc : Thread Cert.WgradIdeal.nD Cert.WgradIdeal.τ).loc Cert.WgradIdeal.main_arg2)), ?_, ?_⟩
  · refine (θ_run _ _ _).mono (fun r h c => ?_) (Cert.WgradIdeal.Value.run_blocks m g)
    obtain ⟨h0, h1, h2, h3, h4, ha⟩ := h c
    exact ⟨h0.trans ((Cert.WgradIdeal.Value.final5 m c).trans (codes_equal _ (hD c))),
      h1.trans ((Cert.WgradIdeal.Value.final6 m c).trans (scales_equal _ (hD c))),
      h2.trans ((Cert.WgradIdeal.Value.final7 m c).trans (dw_equal _ (hD c) _)),
      h3.trans ((Cert.WgradIdeal.Value.final8 m c).trans (dx_equal _ _ _)),
      h4.trans ((Cert.WgradIdeal.Value.final9 m c).trans (dgamma_equal _ _)), ha⟩
  · refine (θ_run _ _ _).mono (fun r h c => ?_) (Cert.WgradRefIdeal.Value.run m' g')
    obtain ⟨h0, h1, h2, h3, h4, ha⟩ := h c
    obtain ⟨e0, e1, e2, e3, e4⟩ := hagree c
    rw [e0, e1, e2, e3, e4] at h0 h1 h2 h3 h4
    exact ⟨h0, h1, h2, h3, h4, ha⟩
end Cert.Equation
end
-- ==== Proof.NormBlock.lean ====
/- What one grid point of the normalising kernel writes: codes, scales and the transposed decoded codes of a block of 128 rows,
   element by element. -/
module
public import proofs.«01_k».proof.Proof.Gen.NormIdeal.Value
public import Idealize.ShloMosaic.Lib.Pipeline.ValueKit
public import Idealize.ShloMosaic.Lib.Pointwise
public import proofs.«01_k».proof.Proof.Scale
@[expose] public section
set_option maxRecDepth 16384
set_option maxHeartbeats 400000
noncomputable section
namespace Cert.NormIdeal.Value
open Cert.Mx Cert.NormIdeal Cert.NormIdeal.Gen Idealize.ShloMosaic Idealize.ShloMosaic.TcCoe Idealize.SL.Sem
open Idealize.ShloMosaic.Pipeline (Dat)

/-- The ratios of a group of 32 rows, one for each column. -/
def groupRatios (v : FVec Ideal S32x3584 .f32) : FVec Ideal S1x3584 .f32 :=
  mulf (shapeCast S1x3584 (multiReduction .maximumf [0] S3584 (absf v) 0xFF800000#32 reduces_S32x3584_S3584 (.inl rfl) rfl)
    shapeCasts_S3584_S1x3584) (broadcast S1x3584 (Scalar.ofBits .f32 0x3B124925#32))
/-- How many of the words of an exponent alone are at most each ratio. -/
def groupCounts (v : FVec Ideal S32x3584 .f32) : IVec S1x3584 32 :=
  shapeCast S1x3584 (multiReductionI .add [0] S3584 (extui 32 (cmpf .oge (broadcastTo S256x3584 (groupRatios v) broadcasts_S1x3584_S256x3584)
    (bitcastToFloat (F := Ideal) .f32 (shli (iota .tc S256x3584 32 [0] iota_S256x3584_d0_w32) (broadcast S256x3584 23#32)))) natLt_1_32)
    0#32 reduces_S256x3584_S3584 rfl) shapeCasts_S3584_S1x3584
/-- The exponent field of each scale. -/
def groupFields (v : FVec Ideal S32x3584 .f32) : IVec S1x3584 32 :=
  select (cmpi .sle (addi (subi (groupCounts v) (broadcast S1x3584 1#32)) (broadcast S1x3584 1#32)) (broadcast S1x3584 1#32))
    (broadcast S1x3584 127#32) (addi (subi (groupCounts v) (broadcast S1x3584 1#32)) (broadcast S1x3584 1#32))
/-- The codes and the scales of one group of 32 rows. -/
def groupCodes (v : FVec Ideal S32x3584 .f32) : FVec Ideal S32x3584 .fp8e4m3 := k0_pay12 v (groupFields v)
def groupScale (v : FVec Ideal S32x3584 .f32) : FVec Ideal S1x1x3584 .f32 := k0_pay13 (shli (groupFields v) (broadcast S1x3584 23#32))

/-- The largest magnitude of column `c` of a group, times the reciprocal of the format's largest value. -/
def groupRatio (v : FVec Ideal S32x3584 .f32) (c : Fin 3584) : EReal :=
  Finset.univ.fold max (Ideal.ofBits FTy.f32 0xFF800000#32)
    (fun k : Fin 32 => FloatOps.absf (F := Ideal) (φ := .f32) (v (ix2 k c))) * Ideal.ofBits FTy.f32 0x3B124925#32
/-- The code of an element whose group has ratio `p`. -/
def kcode (x p : EReal) : EReal :=
  min (Ideal.ofBits .f32 0x43E00000#32) (max (Ideal.ofBits .f32 0xC3E00000#32) (x * kinv p))

theorem ratios_at (v : FVec Ideal S32x3584 .f32) (c : Fin 3584) : groupRatios v (ix2 0 c) = groupRatio v c := by
  pointwise [groupRatios]
  rfl
theorem counts_at (v : FVec Ideal S32x3584 .f32) (c : Fin 3584) : groupCounts v (ix2 0 c) = count (groupRatio v c) := by
  pointwise [groupCounts]
  simp only [ratios_at]
  rfl
theorem fields_at (v : FVec Ideal S32x3584 .f32) (c : Fin 3584) : groupFields v (ix2 0 c) = field (groupRatio v c) := by
  pointwise [groupFields]
  rw [counts_at]
  rfl
theorem groupScale_at (v : FVec Ideal S32x3584 .f32) (c : Fin 3584) : groupScale v (ix3 0 0 c) = kscale (groupRatio v c) := by
  unfold groupScale
  pointwise [k0_pay13]
  rw [fields_at]
  rfl
theorem groupCodes_at (v : FVec Ideal S32x3584 .f32) (r : Fin 32) (c : Fin 3584) :
    groupCodes v (ix2 r c) = kcode (v (ix2 r c)) (groupRatio v c) := by
  unfold groupCodes
  pointwise [k0_pay12]
  rw [fields_at]
  rfl

/-- The ratio of group `q` of column `c` of a block. -/
def blockRatio (X : FVec Ideal S128x3584 .f32) (q : Fin 4) (c : Fin 3584) : EReal :=
  Finset.univ.fold max (Ideal.ofBits FTy.f32 0xFF800000#32)
    (fun k : Fin 32 => FloatOps.absf (F := Ideal) (φ := .f32) (X (ix2 ⟨q.val * 32 + k.val, by omega⟩ c)))
    * Ideal.ofBits FTy.f32 0x3B124925#32
/-- The codes and the scales of a block. -/
def blockCodes (X : FVec Ideal S128x3584 .f32) : Vec Ideal S128x3584 .fp8e4m3 := fun y =>
  kcode (X y) (blockRatio X ⟨(y 0).val / 32, by have : (y 0).val < 128 := (y 0).isLt; omega⟩ (y 1))
def blockScales (X : FVec Ideal S128x3584 .f32) : Vec Ideal S1x4x3584 .f32 := fun y => kscale (blockRatio X (y 1) (y 2))
/-- Codes times scales, transposed. -/
def decode (C : Vec Ideal S128x3584 .fp8e4m3) (S : Vec Ideal S1x4x3584 .f32) : Vec Ideal S3584x128 .bf16 := fun y =>
  (show EReal from C (ix2 (y 1) (y 0)))
    * (show EReal from S (ix3 0 ⟨(y 1).val / 32, by have : (y 1).val < 128 := (y 1).isLt; omega⟩ (y 0)))

theorem slice_at (X : FVec Ideal S128x3584 .f32) (o : ℕ) (h) (r : Fin 32) (c : Fin 3584) (ho : o + r.val < 128) :
    extractStridedSlice S32x3584 ![o, 0] X h (ix2 r c) = X (ix2 ⟨o + r.val, ho⟩ c) := by
  refine congrArg X (funext fun a => ?_)
  match a with
  | ⟨0, _⟩ => exact Fin.ext (by show o + r.val = o + r.val; omega)
  | ⟨1, _⟩ => exact Fin.ext (by show 0 + c.val = c.val; omega)

theorem ratio_slice (X : FVec Ideal S128x3584 .f32) (o q : ℕ) (ho : o = 32 * q) (hq : q < 4) (h) (c : Fin 3584) :
    groupRatio (extractStridedSlice S32x3584 ![o, 0] X h) c = blockRatio X ⟨q, hq⟩ c := by
  unfold groupRatio blockRatio
  refine congrArg (fun f => Finset.univ.fold max (Ideal.ofBits FTy.f32 0xFF800000#32) f * Ideal.ofBits FTy.f32 0x3B124925#32) (funext fun r => ?_)
  rw [slice_at X o h r c (by omega)]
  have e : (⟨o + r.val, by omega⟩ : Fin 128) = ⟨q * 32 + r.val, by omega⟩ := Fin.ext (by show o + r.val = q * 32 + r.val; omega)
  rw [e]

theorem rows_emb (o : ℕ) (inb) (r : Fin 32) (c : Fin 3584) (h : o + r.val < 128) :
    (Rect.unit (s := S128x3584) ![o, 0] ![32, 3584] inb).emb (ix2 r c) = ix2 ⟨o + r.val, h⟩ c := by
  funext a
  match a with
  | ⟨0, _⟩ => exact Fin.ext (by show o + 1 * r.val = o + r.val; omega)
  | ⟨1, _⟩ => exact Fin.ext (by show 0 + 1 * c.val = c.val; omega)

theorem code_piece (X : FVec Ideal S128x3584 .f32) (o q : ℕ) (ho : o = 32 * q) (hq : q < 4) (h) (inb)
    (w : Vec Ideal S32x3584 .fp8e4m3) (hw : w = groupCodes (extractStridedSlice S32x3584 ![o, 0] X h)) (r : Fin 32) (c : Fin 3584) :
    w (ix2 r c) = blockCodes X ((Rect.unit (s := S128x3584) ![o, 0] ![32, 3584] inb).emb (ix2 r c)) := by
  have hr : o + r.val < 128 := by omega
  rw [hw, groupCodes_at, rows_emb o inb r c hr, ratio_slice X o q ho hq, slice_at X o h r c hr]
  have e : (⟨q, hq⟩ : Fin 4) = ⟨(o + r.val) / 32, by omega⟩ := Fin.ext (by show q = (o + r.val) / 32; omega)
  rw [e]
  rfl
theorem row_emb (q : ℕ) (hq : q < 4) (inb) (c : Fin 3584) :
    (Rect.unit (s := S1x4x3584) ![0, q, 0] ![1, 1, 3584] inb).emb (ix3 (0 : Fin 1) (0 : Fin 1) c) = ix3 (0 : Fin 1) ⟨q, hq⟩ c := by
  funext a
  match a with
  | ⟨0, _⟩ => exact Fin.ext (by show 0 + 1 * 0 = 0; omega)
  | ⟨1, _⟩ => exact Fin.ext (by show q + 1 * 0 = q; omega)
  | ⟨2, _⟩ => exact Fin.ext (by show 0 + 1 * c.val = c.val; omega)
theorem scale_piece (X : FVec Ideal S128x3584 .f32) (o q : ℕ) (ho : o = 32 * q) (hq : q < 4) (h) (inb)
    (w : Vec Ideal S1x1x3584 .f32) (hw : w = groupScale (extractStridedSlice S32x3584 ![o, 0] X h)) (c : Fin 3584) :
    w (ix3 0 0 c) = blockScales X ((Rect.unit (s := S1x4x3584) ![0, q, 0] ![1, 1, 3584] inb).emb (ix3 0 0 c)) := by
  rw [hw, groupScale_at, row_emb q hq, ratio_slice X o q ho hq]
  rfl

/-- One group of 32 rows of codes, the last of the groups still to be read. -/
theorem rows_step (G : Vec Ideal S128x3584 .fp8e4m3) (n o : ℕ) (hn : n = o + 32) (inb) (w : Vec Ideal S32x3584 .fp8e4m3)
    (L : List (View.Piece (Elt Ideal) S128x3584 .fp8e4m3)) (y : S128x3584.Idx)
    (hw : ∀ (r : Fin 32) (c : Fin 3584), w (ix2 r c) = G ((Rect.unit (s := S128x3584) ![o, 0] ![32, 3584] inb).emb (ix2 r c)))
    (hy : (y 0).val < n) (hL : (y 0).val < o → View.canon L y = G y) :
    View.canon (⟨Rect.unit (s := S128x3584) ![o, 0] ![32, 3584] inb, w⟩ :: L) y = G y := by
  by_cases h : (y 0).val < o
  · rw [View.canon_cons_of_not_mem _ _ (fun hm => ?_)]
    · exact hL h
    · obtain ⟨x, hx⟩ := (Rect.unit (s := S128x3584) ![o, 0] ![32, 3584] inb).exists_idx_of_mem hm
      have := congrArg (fun z : S128x3584.Idx => (z 0).val) hx
      have e : o + 1 * (x 0).val = (y 0).val := this
      omega
  · have hy1 : (y 1).val < 3584 := (y 1).isLt
    have e : y = (Rect.unit (s := S128x3584) ![o, 0] ![32, 3584] inb).emb (ix2 (⟨(y 0).val - o, by omega⟩ : Fin 32) (⟨(y 1).val, hy1⟩ : Fin 3584)) := by
      funext a
      match a with
      | ⟨0, _⟩ => exact Fin.ext (by show (y 0).val = o + 1 * ((y 0).val - o); omega)
      | ⟨1, _⟩ => exact Fin.ext (by show (y 1).val = 0 + 1 * (y 1).val; omega)
    rw [e, View.canon_cons_emb]
    exact hw _ _

/-- One row of scales, the last of the rows still to be read. -/
theorem scale_step (G : Vec Ideal S1x4x3584 .f32) (n q : ℕ) (hn : n = q + 1) (inb) (w : Vec Ideal S1x1x3584 .f32)
    (L : List (View.Piece (Elt Ideal) S1x4x3584 .f32)) (y : S1x4x3584.Idx)
    (hw : ∀ c : Fin 3584, w (ix3 0 0 c) = G ((Rect.unit (s := S1x4x3584) ![0, q, 0] ![1, 1, 3584] inb).emb (ix3 0 0 c)))
    (hy : (y 1).val < n) (hL : (y 1).val < q → View.canon L y = G y) :
    View.canon (⟨Rect.unit (s := S1x4x3584) ![0, q, 0] ![1, 1, 3584] inb, w⟩ :: L) y = G y := by
  by_cases h : (y 1).val < q
  · rw [View.canon_cons_of_not_mem _ _ (fun hm => ?_)]
    · exact hL h
    · obtain ⟨x, hx⟩ := (Rect.unit (s := S1x4x3584) ![0, q, 0] ![1, 1, 3584] inb).exists_idx_of_mem hm
      have := congrArg (fun z : S1x4x3584.Idx => (z 1).val) hx
      have e : q + 1 * (x 1).val = (y 1).val := this
      omega
  · have hy0 : (y 0).val < 1 := (y 0).isLt
    have hy2 : (y 2).val < 3584 := (y 2).isLt
    have e : y = (Rect.unit (s := S1x4x3584) ![0, q, 0] ![1, 1, 3584] inb).emb (ix3 (0 : Fin 1) (0 : Fin 1) (⟨(y 2).val, hy2⟩ : Fin 3584)) := by
      funext a
      match a with
      | ⟨0, _⟩ => exact Fin.ext (by show (y 0).val = 0 + 1 * 0; omega)
      | ⟨1, _⟩ => exact Fin.ext (by show (y 1).val = q + 1 * 0; omega)
      | ⟨2, _⟩ => exact Fin.ext (by show (y 2).val = 0 + 1 * (y 2).val; omega)
    rw [e, View.canon_cons_emb]
    exact hw _

/-- One square of the transposed array, the last of the squares still to be read. -/
theorem tile_step (G : Vec Ideal S3584x128 .bf16) (n o : ℕ) (hn : n = o + 128) (inb) (w : Vec Ideal S128x128 .bf16)
    (L : List (View.Piece (Elt Ideal) S3584x128 .bf16)) (y : S3584x128.Idx)
    (hw : ∀ (r : Fin 128) (c : Fin 128), w (ix2 r c) = G ((Rect.unit (s := S3584x128) ![o, 0] ![128, 128] inb).emb (ix2 r c)))
    (hy : (y 0).val < n) (hL : (y 0).val < o → View.canon L y = G y) :
    View.canon (⟨Rect.unit (s := S3584x128) ![o, 0] ![128, 128] inb, w⟩ :: L) y = G y := by
  by_cases h : (y 0).val < o
  · rw [View.canon_cons_of_not_mem _ _ (fun hm => ?_)]
    · exact hL h
    · obtain ⟨x, hx⟩ := (Rect.unit (s := S3584x128) ![o, 0] ![128, 128] inb).exists_idx_of_mem hm
      have := congrArg (fun z : S3584x128.Idx => (z 0).val) hx
      have e : o + 1 * (x 0).val = (y 0).val := this
      omega
  · have hy1 : (y 1).val < 128 := (y 1).isLt
    have e : y = (Rect.unit (s := S3584x128) ![o, 0] ![128, 128] inb).emb (ix2 (⟨(y 0).val - o, by omega⟩ : Fin 128) (⟨(y 1).val, hy1⟩ : Fin 128)) := by
      funext a
      match a with
      | ⟨0, _⟩ => exact Fin.ext (by show (y 0).val = o + 1 * ((y 0).val - o); omega)
      | ⟨1, _⟩ => exact Fin.ext (by show (y 1).val = 0 + 1 * (y 1).val; omega)
    rw [e, View.canon_cons_emb]
    exact hw _ _

end Cert.NormIdeal.Value
end
-- ==== Proof.NormPoint.lean ====
/- What one grid point of the normalising kernel leaves in each output block. -/
module
public import proofs.«01_k».proof.Proof.NormBlock
@[expose] public section
set_option maxRecDepth 16384
noncomputable section
namespace Cert.NormIdeal.Value
open Cert.Mx Cert.NormIdeal Cert.NormIdeal.Gen Idealize.ShloMosaic Idealize.ShloMosaic.TcCoe Idealize.SL.Sem
open Idealize.ShloMosaic.Pipeline (Dat)
variable (m : (ℓ : Loc nD τ sig) → Buf (Elt Ideal) ℓ)

/-- The normalised block of a grid point. -/
def normal (c : Dev nD) (t : Fin cfg0.N) : FVec Ideal S128x3584 .f32 := k0_pay2 (iblk m c 0 t) (iblk m c 1 t)

/-- The codes and the scales of a block, as the stores leave them, the last first. -/
def codePieces (X : FVec Ideal S128x3584 .f32) : List (View.Piece (Elt Ideal) S128x3584 .fp8e4m3) :=
  [⟨Rect.unit (s := S128x3584) ![96, 0] ![32, 3584] inb_S128x3584_S32x3584_96_0, groupCodes (extractStridedSlice S32x3584 ![96, 0] X slices_S128x3584_o96_0_S32x3584)⟩,
   ⟨Rect.unit (s := S128x3584) ![64, 0] ![32, 3584] inb_S128x3584_S32x3584_64_0, groupCodes (extractStridedSlice S32x3584 ![64, 0] X slices_S128x3584_o64_0_S32x3584)⟩,
   ⟨Rect.unit (s := S128x3584) ![32, 0] ![32, 3584] inb_S128x3584_S32x3584_32_0, groupCodes (extractStridedSlice S32x3584 ![32, 0] X slices_S128x3584_o32_0_S32x3584)⟩,
   ⟨Rect.unit (s := S128x3584) ![0, 0] ![32, 3584] inb_S128x3584_S32x3584_0_0, groupCodes (extractStridedSlice S32x3584 ![0, 0] X slices_S128x3584_o0_0_S32x3584)⟩]
def scalePieces (X : FVec Ideal S128x3584 .f32) : List (View.Piece (Elt Ideal) S1x4x3584 .f32) :=
  [⟨Rect.unit (s := S1x4x3584) ![0, 3, 0] ![1, 1, 3584] inb_S1x4x3584_S1x1x3584_0_3_0, groupScale (extractStridedSlice S32x3584 ![96, 0] X slices_S128x3584_o96_0_S32x3584)⟩,
   ⟨Rect.unit (s := S1x4x3584) ![0, 2, 0] ![1, 1, 3584] inb_S1x4x3584_S1x1x3584_0_2_0, groupScale (extractStridedSlice S32x3584 ![64, 0] X slices_S128x3584_o64_0_S32x3584)⟩,
   ⟨Rect.unit (s := S1x4x3584) ![0, 1, 0] ![1, 1, 3584] inb_S1x4x3584_S1x1x3584_0_1_0, groupScale (extractStridedSlice S32x3584 ![32, 0] X slices_S128x3584_o32_0_S32x3584)⟩,
   ⟨Rect.unit (s := S1x4x3584) ![0, 0, 0] ![1, 1, 3584] inb_S1x4x3584_S1x1x3584_0_0_0, groupScale (extractStridedSlice S32x3584 ![0, 0] X slices_S128x3584_o0_0_S32x3584)⟩]

theorem canon_codes (X : FVec Ideal S128x3584 .f32) : View.canon (codePieces X) = blockCodes X := by
  unfold codePieces
  funext y
  refine rows_step _ 128 96 rfl _ _ _ y ?_ (y 0).isLt (fun hy => ?_)
  · exact code_piece X 96 3 rfl (by decide) _ _ _ rfl
  refine rows_step _ _ 64 rfl _ _ _ y ?_ hy (fun hy => ?_)
  · exact code_piece X 64 2 rfl (by decide) _ _ _ rfl
  refine rows_step _ _ 32 rfl _ _ _ y ?_ hy (fun hy => ?_)
  · exact code_piece X 32 1 rfl (by decide) _ _ _ rfl
  refine rows_step _ _ 0 rfl _ _ _ y ?_ hy (fun hy => ?_)
  · exact code_piece X 0 0 rfl (by decide) _ _ _ rfl
  exact absurd hy (Nat.not_lt_zero _)
theorem canon_scales (X : FVec Ideal S128x3584 .f32) : View.canon (scalePieces X) = blockScales X := by
  unfold scalePieces
  funext y
  refine scale_step _ 4 3 rfl _ _ _ y ?_ (y 1).isLt (fun hy => ?_)
  · exact scale_piece X 96 3 rfl (by decide) _ _ _ rfl
  refine scale_step _ _ 2 rfl _ _ _ y ?_ hy (fun hy => ?_)
  · exact scale_piece X 64 2 rfl (by decide) _ _ _ rfl
  refine scale_step _ _ 1 rfl _ _ _ y ?_ hy (fun hy => ?_)
  · exact scale_piece X 32 1 rfl (by decide) _ _ _ rfl
  refine scale_step _ _ 0 rfl _ _ _ y ?_ hy (fun hy => ?_)
  · exact scale_piece X 0 0 rfl (by decide) _ _ _ rfl
  exact absurd hy (Nat.not_lt_zero _)

theorem codes_point (c : Dev nD) (t : Fin cfg0.N) : (outsAt0 m c t).1 = blockCodes (normal m c t) := by
  unfold outsAt0; frame_out
  exact canon_codes (normal m c t)
theorem scales_point (c : Dev nD) (t : Fin cfg0.N) : (outsAt0 m c t).2.1 = blockScales (normal m c t) := by
  unfold outsAt0; frame_out
  exact canon_scales (normal m c t)

/-- A load of 32 rows of 128 columns of the codes reads the codes there. -/
theorem load_codes (V : View sig .tc .vmem S128x3584 .fp8e4m3) (L : List (View.Piece (Elt Ideal) S128x3584 .fp8e4m3)) (C : Vec Ideal S128x3584 .fp8e4m3)
    (h : View.canon L = C) (p o : ℕ) (inb) (j : Fin 32) (r : Fin 128) (hp : p + j.val < 128) (ho : o + r.val < 3584) :
    V.readCov L (Rect.unit (s := S128x3584) ![p, o] ![32, 128] inb).toLoadRect (ix2 j r) = C (ix2 ⟨p + j.val, hp⟩ ⟨o + r.val, ho⟩) := by
  rw [View.readCov_eq_canon', h]
  refine congrArg C (funext fun a => ?_)
  match a with
  | ⟨0, _⟩ => exact Fin.ext (by show p + 1 * j.val = p + j.val; omega)
  | ⟨1, _⟩ => exact Fin.ext (by show o + 1 * r.val = o + r.val; omega)
theorem load_scales (V : View sig .tc .vmem S1x4x3584 .f32) (L : List (View.Piece (Elt Ideal) S1x4x3584 .f32)) (S : Vec Ideal S1x4x3584 .f32)
    (h : View.canon L = S) (q o : ℕ) (inb) (r : Fin 128) (hq : q < 4) (ho : o + r.val < 3584) :
    V.readCov L (Rect.unit (s := S1x4x3584) ![0, q, o] ![1, 1, 128] inb).toLoadRect (ix3 0 0 r) = S (ix3 0 ⟨q, hq⟩ ⟨o + r.val, ho⟩) := by
  rw [View.readCov_eq_canon', h]
  refine congrArg S (funext fun a => ?_)
  match a with
  | ⟨0, _⟩ => exact Fin.ext (by show 0 + 1 * 0 = 0; omega)
  | ⟨1, _⟩ => exact Fin.ext (by show q + 1 * 0 = q; omega)
  | ⟨2, _⟩ => exact Fin.ext (by show o + 1 * r.val = o + r.val; omega)

section
variable (a0 : Vec Ideal S32x128 .fp8e4m3) (s0 : Vec Ideal S1x1x128 .f32) (a1 : Vec Ideal S32x128 .fp8e4m3) (s1 : Vec Ideal S1x1x128 .f32)
  (a2 : Vec Ideal S32x128 .fp8e4m3) (s2 : Vec Ideal S1x1x128 .f32) (a3 : Vec Ideal S32x128 .fp8e4m3) (s3 : Vec Ideal S1x1x128 .f32)
/-- One square: four groups of codes times their scales, one below the other and transposed. -/
theorem square0 (r : Fin 128) (j : Fin 32) : k0_pay88 (F := Ideal) a0 s0 a1 s1 a2 s2 a3 s3 (ix2 r ⟨0 + j.val, by omega⟩)
    = (show EReal from a0 (ix2 j r)) * (show EReal from s0 (ix3 0 0 r)) := by
  pointwise [k0_pay88]
theorem square1 (r : Fin 128) (j : Fin 32) : k0_pay88 (F := Ideal) a0 s0 a1 s1 a2 s2 a3 s3 (ix2 r ⟨32 + j.val, by omega⟩)
    = (show EReal from a1 (ix2 j r)) * (show EReal from s1 (ix3 0 0 r)) := by
  pointwise [k0_pay88]
theorem square2 (r : Fin 128) (j : Fin 32) : k0_pay88 (F := Ideal) a0 s0 a1 s1 a2 s2 a3 s3 (ix2 r ⟨64 + j.val, by omega⟩)
    = (show EReal from a2 (ix2 j r)) * (show EReal from s2 (ix3 0 0 r)) := by
  pointwise [k0_pay88]
  rw [dif_neg (by omega), dif_neg (by omega), dif_pos (by omega)]
  have e : (⟨64 + j.val - 32 - 32, by omega⟩ : Fin 32) = j := Fin.ext (by show 64 + j.val - 32 - 32 = j.val; omega)
  rw [e]
theorem square3 (r : Fin 128) (j : Fin 32) : k0_pay88 (F := Ideal) a0 s0 a1 s1 a2 s2 a3 s3 (ix2 r ⟨96 + j.val, by omega⟩)
    = (show EReal from a3 (ix2 j r)) * (show EReal from s3 (ix3 0 0 r)) := by
  pointwise [k0_pay88]
  rw [dif_neg (by omega), dif_neg (by omega), dif_neg (by omega)]
  have e : (⟨96 + j.val - 32 - 32 - 32, by omega⟩ : Fin 32) = j := Fin.ext (by show 96 + j.val - 32 - 32 - 32 = j.val; omega)
  rw [e]
end

theorem group_cases (c : Fin 128) : ∃ j : Fin 32, c = ⟨0 + j.val, by omega⟩ ∨ c = ⟨32 + j.val, by omega⟩ ∨ c = ⟨64 + j.val, by omega⟩ ∨ c = ⟨96 + j.val, by omega⟩ := by
  refine ⟨⟨c.val % 32, by omega⟩, ?_⟩
  have : c.val < 128 := c.isLt
  simp only [Fin.ext_iff]
  omega

theorem square_emb (o : ℕ) (inb) (r c : Fin 128) (h : o + r.val < 3584) :
    (Rect.unit (s := S3584x128) ![o, 0] ![128, 128] inb).emb (ix2 r c) = ix2 ⟨o + r.val, h⟩ c := by
  funext a
  match a with
  | ⟨0, _⟩ => exact Fin.ext (by show o + 1 * r.val = o + r.val; omega)
  | ⟨1, _⟩ => exact Fin.ext (by show 0 + 1 * c.val = c.val; omega)

theorem decode_at (C : Vec Ideal S128x3584 .fp8e4m3) (S : Vec Ideal S1x4x3584 .f32) (r : Fin 3584) (p q : ℕ) (j : Fin 32) (hp : p + j.val < 128)
    (hq : q < 4) (e : p = 32 * q) :
    decode C S (ix2 r ⟨p + j.val, hp⟩) = (show EReal from C (ix2 ⟨p + j.val, hp⟩ r)) * (show EReal from S (ix3 0 ⟨q, hq⟩ r)) := by
  have h : (⟨q, hq⟩ : Fin 4) = ⟨(p + j.val) / 32, by omega⟩ := Fin.ext (by show q = (p + j.val) / 32; omega)
  rw [h]
  rfl

/-- The square of columns `o` to `o + 127` holds the decoded codes, transposed. -/
theorem square_piece (V : View sig .tc .vmem S128x3584 .fp8e4m3) (V' : View sig .tc .vmem S1x4x3584 .f32)
    (L : List (View.Piece (Elt Ideal) S128x3584 .fp8e4m3)) (L' : List (View.Piece (Elt Ideal) S1x4x3584 .f32))
    (C : Vec Ideal S128x3584 .fp8e4m3) (S : Vec Ideal S1x4x3584 .f32) (h : View.canon L = C) (h' : View.canon L' = S)
    (o : ℕ) (ho : o + 128 ≤ 3584) (i0) (i1) (i2) (i3) (k0) (k1) (k2) (k3) (inb) (w : Vec Ideal S128x128 .bf16)
    (hw : w = k0_pay88 (F := Ideal)
      (V.readCov L (Rect.unit (s := S128x3584) ![0, o] ![32, 128] i0).toLoadRect) (V'.readCov L' (Rect.unit (s := S1x4x3584) ![0, 0, o] ![1, 1, 128] k0).toLoadRect)
      (V.readCov L (Rect.unit (s := S128x3584) ![32, o] ![32, 128] i1).toLoadRect) (V'.readCov L' (Rect.unit (s := S1x4x3584) ![0, 1, o] ![1, 1, 128] k1).toLoadRect)
      (V.readCov L (Rect.unit (s := S128x3584) ![64, o] ![32, 128] i2).toLoadRect) (V'.readCov L' (Rect.unit (s := S1x4x3584) ![0, 2, o] ![1, 1, 128] k2).toLoadRect)
      (V.readCov L (Rect.unit (s := S128x3584) ![96, o] ![32, 128] i3).toLoadRect) (V'.readCov L' (Rect.unit (s := S1x4x3584) ![0, 3, o] ![1, 1, 128] k3).toLoadRect))
    (r c : Fin 128) : w (ix2 r c) = decode C S ((Rect.unit (s := S3584x128) ![o, 0] ![128, 128] inb).emb (ix2 r c)) := by
  have hr : o + r.val < 3584 := by omega
  rw [square_emb o inb r c hr, hw]
  obtain ⟨j, e | e | e | e⟩ := group_cases c <;> subst e
  · rw [square0, load_codes V L C h 0 o i0 j r (by omega) hr, load_scales V' L' S h' 0 o k0 r (by omega) hr, decode_at C S _ 0 0 j _ (by omega) rfl]
  · rw [square1, load_codes V L C h 32 o i1 j r (by omega) hr, load_scales V' L' S h' 1 o k1 r (by omega) hr, decode_at C S _ 32 1 j _ (by omega) rfl]
  · rw [square2, load_codes V L C h 64 o i2 j r (by omega) hr, load_scales V' L' S h' 2 o k2 r (by omega) hr, decode_at C S _ 64 2 j _ (by omega) rfl]
  · rw [square3, load_codes V L C h 96 o i3 j r (by omega) hr, load_scales V' L' S h' 3 o k3 r (by omega) hr, decode_at C S _ 96 3 j _ (by omega) rfl]

end Cert.NormIdeal.Value
end
-- ==== Proof.NormTiles.lean ====
/- The transposed block of the normalising kernel: 28 squares, each of them the decoded codes of 128 columns. -/
module
public import proofs.«01_k».proof.Proof.NormPoint
@[expose] public section
set_option maxRecDepth 16384
noncomputable section
namespace Cert.NormIdeal.Value
open Cert.Mx Cert.NormIdeal Cert.NormIdeal.Gen Idealize.ShloMosaic Idealize.ShloMosaic.TcCoe Idealize.SL.Sem
open Idealize.ShloMosaic.Pipeline (Dat)
variable (m : (ℓ : Loc nD τ sig) → Buf (Elt Ideal) ℓ)

theorem codes_inb (p o : ℕ) (hp : p + 32 ≤ 128) (ho : o + 128 ≤ 3584) (a : Fin 2) : (![p, o] : Fin 2 → ℕ) a + (![32, 128] : Fin 2 → ℕ) a ≤ S128x3584.size a := by
  match a with
  | ⟨0, _⟩ => exact hp
  | ⟨1, _⟩ => exact ho
theorem scales_inb (q o : ℕ) (hq : q + 1 ≤ 4) (ho : o + 128 ≤ 3584) (a : Fin 3) : (![0, q, o] : Fin 3 → ℕ) a + (![1, 1, 128] : Fin 3 → ℕ) a ≤ S1x4x3584.size a := by
  match a with
  | ⟨0, _⟩ => exact Nat.le_refl 1
  | ⟨1, _⟩ => exact hq
  | ⟨2, _⟩ => exact ho

/-- The square of columns `o` to `o + 127`, from loads of what the stores left. -/
def square (V : View sig .tc .vmem S128x3584 .fp8e4m3) (V' : View sig .tc .vmem S1x4x3584 .f32)
    (L : List (View.Piece (Elt Ideal) S128x3584 .fp8e4m3)) (L' : List (View.Piece (Elt Ideal) S1x4x3584 .f32)) (o : ℕ)
    (ho : o + 128 ≤ 3584) : Vec Ideal S128x128 .bf16 :=
  k0_pay88 (F := Ideal)
    (V.readCov L (Rect.unit (s := S128x3584) ![0, o] ![32, 128] (codes_inb 0 o (by decide) ho)).toLoadRect)
    (V'.readCov L' (Rect.unit (s := S1x4x3584) ![0, 0, o] ![1, 1, 128] (scales_inb 0 o (by decide) ho)).toLoadRect)
    (V.readCov L (Rect.unit (s := S128x3584) ![32, o] ![32, 128] (codes_inb 32 o (by decide) ho)).toLoadRect)
    (V'.readCov L' (Rect.unit (s := S1x4x3584) ![0, 1, o] ![1, 1, 128] (scales_inb 1 o (by decide) ho)).toLoadRect)
    (V.readCov L (Rect.unit (s := S128x3584) ![64, o] ![32, 128] (codes_inb 64 o (by decide) ho)).toLoadRect)
    (V'.readCov L' (Rect.unit (s := S1x4x3584) ![0, 2, o] ![1, 1, 128] (scales_inb 2 o (by decide) ho)).toLoadRect)
    (V.readCov L (Rect.unit (s := S128x3584) ![96, o] ![32, 128] (codes_inb 96 o (by decide) ho)).toLoadRect)
    (V'.readCov L' (Rect.unit (s := S1x4x3584) ![0, 3, o] ![1, 1, 128] (scales_inb 3 o (by decide) ho)).toLoadRect)

/-- It holds the decoded codes of those columns. -/
theorem square_at (V : View sig .tc .vmem S128x3584 .fp8e4m3) (V' : View sig .tc .vmem S1x4x3584 .f32)
    (L : List (View.Piece (Elt Ideal) S128x3584 .fp8e4m3)) (L' : List (View.Piece (Elt Ideal) S1x4x3584 .f32))
    (C : Vec Ideal S128x3584 .fp8e4m3) (S : Vec Ideal S1x4x3584 .f32) (o : ℕ) (ho : o + 128 ≤ 3584) (inb) (w : Vec Ideal S128x128 .bf16)
    (hw : w = square V V' L L' o ho) (h : View.canon L = C) (h' : View.canon L' = S) (r c : Fin 128) :
    w (ix2 r c) = decode C S ((Rect.unit (s := S3584x128) ![o, 0] ![128, 128] inb).emb (ix2 r c)) :=
  square_piece V V' L L' C S h h' o ho _ _ _ _ _ _ _ _ inb w hw r c

/-- The normalised block, from the loads of the whole staging blocks. -/
def loaded (c : Dev nD) (t : Fin cfg0.N) : FVec Ideal S128x3584 .f32 :=
  k0_pay2 (View.ld (View.read (Elt Ideal) (ms0_0 t).view ((hs0_0 t).unread (iblk m c 0 t)))
      (Rect.unit (s := S128x3584) ![0, 0] ![128, 3584] inb_S128x3584_S128x3584_0_0))
    (View.ld (View.read (Elt Ideal) (ms0_1 t).view ((hs0_1 t).unread (iblk m c 1 t)))
      (Rect.unit (s := S1x3584) ![0, 0] ![1, 3584] inb_S1x3584_S1x3584_0_0))
theorem loaded_eq (c : Dev nD) (t : Fin cfg0.N) : loaded m c t = normal m c t := by
  unfold loaded normal
  rw [Memref.IsWhole.read_unread, Memref.IsWhole.read_unread]
  refine congrArg₂ k0_pay2 ?_ ?_
  · exact View.ld_unit_zero (S := S128x3584) (funext fun a => by match a with | ⟨0, _⟩ => rfl | ⟨1, _⟩ => rfl) _ _
  · exact View.ld_unit_zero (S := S1x3584) (funext fun a => by match a with | ⟨0, _⟩ => rfl | ⟨1, _⟩ => rfl) _ _

theorem transposed_point (c : Dev nD) (t : Fin cfg0.N) :
    (outsAt0 m c t).2.2 = decode (blockCodes (normal m c t)) (blockScales (normal m c t)) := by
  unfold outsAt0; frame_out
  funext y
  have codes := (canon_codes (loaded m c t)).trans (congrArg blockCodes (loaded_eq m c t))
  have scales := (canon_scales (loaded m c t)).trans (congrArg blockScales (loaded_eq m c t))
  refine tile_step _ 3584 3456 rfl _ _ _ y ?_ (y 0).isLt (fun hy => ?_)
  · refine square_at (ms0_2 t).view (ms0_3 t).view ?_ ?_ _ _ _ (by decide) _ _ ?_ ?_ ?_
    rotate_left 2
    · unfold square k0_pay88; rfl
    · exact canon_codes (normal m c t)
    · exact canon_scales (normal m c t)
  refine tile_step _ _ 3328 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 3200 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 3072 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2944 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2816 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2688 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2560 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2432 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2304 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2176 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 2048 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1920 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1792 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1664 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1536 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1408 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1280 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1152 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 1024 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 896 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 768 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 640 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 512 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 384 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 256 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 128 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  refine tile_step _ _ 0 rfl _ _ _ y ?_ hy (fun hy => ?_)
  · refine square_at (ms0_2 t).view (ms0_3 t).view ?_ ?_ _ _ _ (by decide) _ _ ?_ ?_ ?_
    rotate_left 2
    · unfold square k0_pay88; rfl
    · exact codes
    · exact scales
  exact absurd hy (Nat.not_lt_zero _)
end Cert.NormIdeal.Value
end
-- ==== Proof.NormRows.lean ====
/- The normalised rows as functions of `x` and `gamma`, the ratios of their groups of 32, and a bound on these. -/
module
public import proofs.«01_k».proof.Proof.Rows
public import proofs.«01_k».proof.Proof.Scale
@[expose] public section
set_option maxRecDepth 16384
noncomputable section
namespace Cert.Mx
open Idealize.ShloMosaic

/-- Element `c` of a row over its root mean square, scaled by `g`. -/
def normalRow (x g : Fin 3584 → EReal) (c : Fin 3584) : EReal := x c * rinv x * g c
/-- The largest magnitude of 32 elements, times the reciprocal of the format's largest value, 448. -/
def ratio448 (f : Fin 32 → EReal) : EReal :=
  Finset.univ.fold max (Ideal.ofBits FTy.f32 0xFF800000#32) (fun k => FloatOps.absf (F := Ideal) (φ := .f32) (f k))
    * Ideal.ofBits FTy.f32 0x3B124925#32
/-- The ratio of group `k` of column `c`. -/
def groupRatio448 (x : Fin 1920 → Fin 3584 → EReal) (g : Fin 3584 → EReal) (k : Fin 60) (c : Fin 3584) : EReal :=
  ratio448 (fun r => normalRow (x ⟨k.val * 32 + r.val, by omega⟩) g c)

theorem eps_bits : Ideal.ofBits .f32 0x358637BD#32 = ((8796093 * (2 : ℝ) ^ (-43 : ℤ) : ℝ) : EReal) := by
  simp [Ideal.ofBits, Ideal.ieee, -EReal.coe_mul]
theorem e4m3_bits : Ideal.ofBits .f32 0x3B124925#32 = ((9586981 * (2 : ℝ) ^ (-32 : ℤ) : ℝ) : EReal) := by
  simp [Ideal.ofBits, Ideal.ieee, -EReal.coe_mul]
theorem f32_max_bits : Ideal.ofBits .f32 0x7F7FFFFF#32 = ((16777215 * (2 : ℝ) ^ (104 : ℤ) : ℝ) : EReal) := by
  simp [Ideal.ofBits, Ideal.ieee, -EReal.coe_mul]
theorem low_f32 : Ideal.ofBits .f32 0xFF800000#32 = ⊥ := by
  simp [Ideal.ofBits, Ideal.ieee]

theorem square_nonneg (x : EReal) : 0 ≤ x * x := by
  induction x with
  | bot => simp
  | top => simp
  | coe r => rw [← EReal.coe_mul]; exact EReal.coe_nonneg.mpr (mul_self_nonneg r)

theorem real_sum {ι : Type} (s : Finset ι) (f : ι → ℝ) : ((∑ i ∈ s, f i : ℝ) : EReal) = ∑ i ∈ s, (f i : EReal) := by
  classical
  induction s using Finset.induction_on with
  | empty => simp
  | insert a s h e => rw [Finset.sum_insert h, Finset.sum_insert h, EReal.coe_add, e]

/-- A row with an infinite element has an infinite mean square, so that its inverse is zero. -/
theorem rinv_infinite (x : Fin 3584 → EReal) (j : Fin 3584) (h : x j = ⊤ ∨ x j = ⊥) : rinv x = 0 := by
  have hs : (∑ i, x i * x i) = ⊤ := by
    have hj : x j * x j = ⊤ := by rcases h with h | h <;> rw [h] <;> rfl
    have := Finset.single_le_sum (f := fun i => x i * x i) (fun i _ => square_nonneg (x i)) (Finset.mem_univ j)
    exact top_le_iff.mp (hj ▸ this)
  unfold rinv mean
  rw [hs, width, Ideal.div_coe (by norm_num), EReal.top_mul_coe_of_pos (by norm_num), eps_bits, EReal.top_add_coe, Ideal.rsqrt_top]

/-- A row's elements over its root mean square are at most 60 in magnitude. -/
theorem normal_le (x : Fin 3584 → EReal) (c : Fin 3584) : ∃ y : ℝ, |y| ≤ 60 ∧ x c * rinv x = (y : EReal) := by
  by_cases h : ∃ j, x j = ⊤ ∨ x j = ⊥
  · obtain ⟨j, hj⟩ := h
    exact ⟨0, by norm_num, by rw [rinv_infinite x j hj, mul_zero]; rfl⟩
  · have hx : ∀ j, x j = (((x j).toReal : ℝ) : EReal) := fun j =>
      (EReal.coe_toReal (fun e => h ⟨j, .inl e⟩) (fun e => h ⟨j, .inr e⟩)).symm
    generalize hy : (fun j => (x j).toReal) = y at *
    have hx : ∀ j, x j = ((y j : ℝ) : EReal) := fun j => (hx j).trans (by rw [← hy])
    have hs : (∑ i, x i * x i) = ((∑ i, y i * y i : ℝ) : EReal) := by
      rw [real_sum]
      exact Finset.sum_congr rfl fun i _ => by rw [hx, EReal.coe_mul]
    have h0 : 0 ≤ ∑ i, y i * y i := Finset.sum_nonneg fun i _ => mul_self_nonneg _
    have hc : y c * y c ≤ ∑ i, y i * y i := Finset.single_le_sum (f := fun i => y i * y i) (fun i _ => mul_self_nonneg _) (Finset.mem_univ c)
    generalize (∑ i, y i * y i : ℝ) = s at *
    have hm : 0 < s * (1 / 3584) + 8796093 * (2 : ℝ) ^ (-43 : ℤ) := by positivity
    refine ⟨y c * (Real.sqrt (s * (1 / 3584) + 8796093 * (2 : ℝ) ^ (-43 : ℤ)))⁻¹, ?_, ?_⟩
    · rw [abs_mul, abs_inv, abs_of_nonneg (Real.sqrt_nonneg _), ← div_eq_mul_inv, div_le_iff₀ (Real.sqrt_pos.mpr hm)]
      refine abs_le_of_sq_le_sq (a := y c) ?_ (by positivity)
      rw [mul_pow, Real.sq_sqrt hm.le]
      have : (0 : ℝ) < 8796093 * (2 : ℝ) ^ (-43 : ℤ) := by positivity
      nlinarith
    · unfold rinv mean
      rw [hs, width, Ideal.div_coe (by norm_num), eps_bits, ← EReal.coe_mul, ← EReal.coe_add, Ideal.rsqrt_coe, if_neg (not_lt.mpr hm.le),
        if_neg hm.ne', hx, ← EReal.coe_mul]

/-- Where `gamma` is finite every group's ratio is a real number below `2 ^ 126`. -/
theorem ratio_bound (x : Fin 1920 → Fin 3584 → EReal) (g : Fin 3584 → EReal) (hg : ∀ c, max (g c) (-(g c)) ≤ Ideal.ofBits .f32 0x7F7FFFFF#32)
    (k : Fin 60) (c : Fin 3584) : ∃ p : ℝ, 0 ≤ p ∧ p < (2 : ℝ) ^ (126 : ℤ) ∧ groupRatio448 x g k c = (p : EReal) := by
  have hgc := hg c
  rw [f32_max_bits] at hgc
  have hgr : g c = (((g c).toReal : ℝ) : EReal) := by
    refine (EReal.coe_toReal (fun e => ?_) (fun e => ?_)).symm
    · rw [e] at hgc
      exact EReal.coe_ne_top _ (top_le_iff.mp ((le_max_left _ _).trans hgc))
    · rw [e, EReal.neg_bot] at hgc
      exact EReal.coe_ne_top _ (top_le_iff.mp ((le_max_right _ _).trans hgc))
  generalize (g c).toReal = γ at hgr
  have hγ : |γ| ≤ 16777215 * (2 : ℝ) ^ (104 : ℤ) := by
    rw [hgr] at hgc
    have h1 := (le_max_left _ _).trans hgc
    have h2 := (le_max_right _ _).trans hgc
    rw [← EReal.coe_neg] at h2
    exact abs_le.mpr ⟨by have := EReal.coe_le_coe_iff.mp h2; linarith, EReal.coe_le_coe_iff.mp h1⟩
  have hf : ∀ r : Fin 32, FloatOps.absf (F := Ideal) (φ := .f32) (normalRow (x ⟨k.val * 32 + r.val, by omega⟩) g c)
      ≤ ((60 * (16777215 * (2 : ℝ) ^ (104 : ℤ)) : ℝ) : EReal) := by
    intro r
    obtain ⟨y, hy, e⟩ := normal_le (x ⟨k.val * 32 + r.val, by omega⟩) c
    have e' : normalRow (x ⟨k.val * 32 + r.val, by omega⟩) g c = ((y * γ : ℝ) : EReal) := by
      unfold normalRow
      rw [e, hgr, EReal.coe_mul]
    rw [e']
    show max ((y * γ : ℝ) : EReal) (-((y * γ : ℝ) : EReal)) ≤ _
    have hb : |y * γ| ≤ 60 * (16777215 * (2 : ℝ) ^ (104 : ℤ)) := by
      rw [abs_mul]
      exact mul_le_mul hy hγ (abs_nonneg _) (by norm_num)
    rw [← EReal.coe_neg]
    exact max_le (EReal.coe_le_coe_iff.mpr (abs_le.mp hb).2) (EReal.coe_le_coe_iff.mpr (by have := (abs_le.mp hb).1; linarith))
  unfold groupRatio448 ratio448
  generalize hF : (fun r : Fin 32 => FloatOps.absf (F := Ideal) (φ := .f32) (normalRow (x ⟨k.val * 32 + r.val, by omega⟩) g c)) = f
  have hf' : ∀ r, f r ≤ ((60 * (16777215 * (2 : ℝ) ^ (104 : ℤ)) : ℝ) : EReal) := fun r => by rw [← hF]; exact hf r
  have h0 : ∀ r, 0 ≤ f r := by
    intro r
    rw [← hF]
    show (0 : EReal) ≤ max (normalRow (x ⟨k.val * 32 + r.val, by omega⟩) g c) (-(normalRow (x ⟨k.val * 32 + r.val, by omega⟩) g c))
    rcases le_total 0 (normalRow (x ⟨k.val * 32 + r.val, by omega⟩) g c) with h | h
    · exact h.trans (le_max_left _ _)
    · exact (EReal.neg_nonneg.mpr h).trans (le_max_right _ _)
  have hle : Finset.univ.fold max (Ideal.ofBits FTy.f32 0xFF800000#32) f ≤ ((60 * (16777215 * (2 : ℝ) ^ (104 : ℤ)) : ℝ) : EReal) := by
    rw [Finset.fold_max_le]
    exact ⟨by rw [low_f32]; exact bot_le, fun k _ => hf' k⟩
  have hge : (0 : EReal) ≤ Finset.univ.fold max (Ideal.ofBits FTy.f32 0xFF800000#32) f := by
    rw [Finset.le_fold_max]
    exact .inr ⟨0, Finset.mem_univ _, h0 0⟩
  generalize Finset.univ.fold max (Ideal.ofBits FTy.f32 0xFF800000#32) f = M at hle hge ⊢
  have hM : M = ((M.toReal : ℝ) : EReal) := (EReal.coe_toReal (ne_top_of_le_ne_top (EReal.coe_ne_top _) hle)
    (ne_bot_of_le_ne_bot (EReal.zero_ne_bot) hge)).symm
  rw [hM] at hle hge ⊢
  have h1 := EReal.coe_le_coe_iff.mp hle
  have h2 := EReal.coe_nonneg.mp hge
  refine ⟨M.toReal * (9586981 * (2 : ℝ) ^ (-32 : ℤ)), by positivity, ?_, by rw [e4m3_bits, ← EReal.coe_mul]⟩
  refine (mul_le_mul_of_nonneg_right h1 (by positivity)).trans_lt ?_
  norm_num

end Cert.Mx
end
-- ==== Proof.NormFinal.lean ====
/- The normalising kernel's result arrays, as functions of its arguments. -/
module
public import proofs.«01_k».proof.Proof.NormTiles
public import proofs.«01_k».proof.Proof.NormRows
@[expose] public section
set_option maxRecDepth 16384
noncomputable section
namespace Cert.NormIdeal.Value
open Cert.Mx Cert.NormIdeal Cert.NormIdeal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0, 0] ∧ win0_4.index t = ![0, t.val] :=
  (by decide +kernel : ∀ t : Fin grid0.N, _)
theorem lt15 (t : Fin cfg0.N) : t.val < 15 := t.isLt

theorem x_block (c : Dev nD) (t : Fin cfg0.N) (r : Fin 128) (q : Fin 3584) : iblk m c 0 t (ix2 r q)
    = m ((c : Thread nD τ).loc main_arg0) (ix2 ⟨t.val * 128 + r.val, by have := lt15 t; omega⟩ q) := by
  blk_point [iblk, V, idx t]
theorem gamma_block (c : Dev nD) (t : Fin cfg0.N) (q : Fin 3584) : iblk m c 1 t (ix2 0 q)
    = m ((c : Thread nD τ).loc main_arg1) (ix2 0 q) := by
  blk_point [iblk, V, idx t]

theorem inv_width (x : EReal) : x * Named.named (F := Ideal) (φ := .f32) κ "inv_d_model" 0x39924925#32 = Ideal.div x (Ideal.ofBits .f32 0x45600000#32) := by
  rw [IdealRules.named_const.ideal_named_scalar (φ := .f32) κ "inv_d_model" 0x39924925#32 _ rfl]
  exact mul_inv_width x
theorem normal_at (v : Vec Ideal S128x3584 .bf16) (g : Vec Ideal S1x3584 .f32) (r : Fin 128) (q : Fin 3584) :
    k0_pay2 (F := Ideal) v g (ix2 r q) = normalRow (fun j => v (ix2 r j)) (fun j => g (ix2 0 j)) q := by
  pointwise [k0_pay2]
  simp only [inv_width]
  rfl

/-- The rows of an array. -/
def rows (X : Vec Ideal S1920x3584 .bf16) (r : Fin 1920) (j : Fin 3584) : EReal := X (ix2 r j)
def weights (G : Vec Ideal S1x3584 .f32) (j : Fin 3584) : EReal := G (ix2 0 j)
/-- The code and the scale of row `r` of column `c`. -/
def codeOf (X : Vec Ideal S1920x3584 .bf16) (G : Vec Ideal S1x3584 .f32) (r : Fin 1920) (c : Fin 3584) : EReal :=
  kcode (normalRow (rows X r) (weights G) c) (groupRatio448 (rows X) (weights G) ⟨r.val / 32, by omega⟩ c)
def scaleOf (X : Vec Ideal S1920x3584 .bf16) (G : Vec Ideal S1x3584 .f32) (k : Fin 60) (c : Fin 3584) : EReal :=
  kscale (groupRatio448 (rows X) (weights G) k c)
def codesOf (X : Vec Ideal S1920x3584 .bf16) (G : Vec Ideal S1x3584 .f32) : Vec Ideal S1920x3584 .fp8e4m3 := fun y => codeOf X G (y 0) (y 1)
def scalesOf (X : Vec Ideal S1920x3584 .bf16) (G : Vec Ideal S1x3584 .f32) : Vec Ideal S15x4x3584 .f32 := fun y =>
  scaleOf X G ⟨(y 0).val * 4 + (y 1).val, by have : (y 0).val < 15 := (y 0).isLt; have : (y 1).val < 4 := (y 1).isLt; omega⟩ (y 2)
def transposedOf (X : Vec Ideal S1920x3584 .bf16) (G : Vec Ideal S1x3584 .f32) : Vec Ideal S3584x1920 .bf16 := fun y =>
  codeOf X G (y 1) (y 0) * scaleOf X G ⟨(y 1).val / 32, by have : (y 1).val < 1920 := (y 1).isLt; omega⟩ (y 0)

theorem block_normal (c : Dev nD) (t : Fin cfg0.N) (r : Fin 128) (q : Fin 3584) : normal m c t (ix2 r q)
    = normalRow (rows (m ((c : Thread nD τ).loc main_arg0)) ⟨t.val * 128 + r.val, by have := lt15 t; omega⟩)
      (weights (m ((c : Thread nD τ).loc main_arg1))) q := by
  unfold normal
  rw [normal_at, funext (x_block m c t r), funext (gamma_block m c t)]
  rfl
theorem block_ratio (c : Dev nD) (t : Fin cfg0.N) (k : Fin 4) (q : Fin 3584) : blockRatio (normal m c t) k q
    = groupRatio448 (rows (m ((c : Thread nD τ).loc main_arg0))) (weights (m ((c : Thread nD τ).loc main_arg1)))
      ⟨t.val * 4 + k.val, by have := lt15 t; omega⟩ q := by
  unfold blockRatio groupRatio448 ratio448
  refine congrArg (fun f => Finset.univ.fold max (Ideal.ofBits FTy.f32 0xFF800000#32) f * Ideal.ofBits FTy.f32 0x3B124925#32) (funext fun r => ?_)
  rw [block_normal]
  have e : ∀ h h', (⟨t.val * 128 + (k.val * 32 + r.val), h⟩ : Fin 1920) = ⟨(t.val * 4 + k.val) * 32 + r.val, h'⟩ := fun _ _ =>
    Fin.ext (by show t.val * 128 + (k.val * 32 + r.val) = (t.val * 4 + k.val) * 32 + r.val; omega)
  rw [e _ (by have := lt15 t; omega)]
theorem block_code (c : Dev nD) (t : Fin cfg0.N) (r : Fin 128) (q : Fin 3584) : blockCodes (normal m c t) (ix2 r q)
    = codeOf (m ((c : Thread nD τ).loc main_arg0)) (m ((c : Thread nD τ).loc main_arg1)) ⟨t.val * 128 + r.val, by have := lt15 t; omega⟩ q := by
  show kcode (normal m c t (ix2 r q)) (blockRatio (normal m c t) ⟨r.val / 32, _⟩ q) = _
  rw [block_normal, block_ratio]
  have e : ∀ h h', (⟨t.val * 4 + r.val / 32, h⟩ : Fin 60) = ⟨(t.val * 128 + r.val) / 32, h'⟩ := fun _ _ =>
    Fin.ext (by show t.val * 4 + r.val / 32 = (t.val * 128 + r.val) / 32; omega)
  rw [e _ (by have := lt15 t; omega)]
  rfl

theorem emb2 (t : Fin cfg0.N) (r : Fin 128) (q : Fin 3584) : (win0_2.blk t).view.emb (ix2 r q)
    = (ix2 (⟨t.val * 128 + r.val, by have := lt15 t; omega⟩ : Fin 1920) q : S1920x3584.Idx) := by
  blk_ext [idx t]
theorem emb3 (t : Fin cfg0.N) (k : Fin 4) (q : Fin 3584) : (win0_3.blk t).view.emb (ix3 (0 : Fin 1) k q)
    = (ix3 (⟨t.val, lt15 t⟩ : Fin 15) k q : S15x4x3584.Idx) := by
  blk_ext [idx t]
theorem emb4 (t : Fin cfg0.N) (r : Fin 3584) (q : Fin 128) : (win0_4.blk t).view.emb (ix2 r q)
    = (ix2 r (⟨t.val * 128 + q.val, by have := lt15 t; omega⟩ : Fin 1920) : S3584x1920.Idx) := by
  blk_ext [idx t]

theorem point2 (c : Dev nD) (t : Fin cfg0.N) (r : Fin 128) (q : Fin 3584) : blockCodes (normal m c t) (ix2 r q)
    = codesOf (m ((c : Thread nD τ).loc main_arg0)) (m ((c : Thread nD τ).loc main_arg1)) ((win0_2.blk t).view.emb (ix2 r q)) := by
  rw [emb2, block_code]; rfl
theorem point3 (c : Dev nD) (t : Fin cfg0.N) (k : Fin 4) (q : Fin 3584) : blockScales (normal m c t) (ix3 0 k q)
    = scalesOf (m ((c : Thread nD τ).loc main_arg0)) (m ((c : Thread nD τ).loc main_arg1)) ((win0_3.blk t).view.emb (ix3 (0 : Fin 1) k q)) := by
  rw [emb3]
  exact congrArg kscale (block_ratio m c t k q)
theorem point4 (c : Dev nD) (t : Fin cfg0.N) (r : Fin 3584) (q : Fin 128) :
    decode (blockCodes (normal m c t)) (blockScales (normal m c t)) (ix2 r q)
    = transposedOf (m ((c : Thread nD τ).loc main_arg0)) (m ((c : Thread nD τ).loc main_arg1)) ((win0_4.blk t).view.emb (ix2 r q)) := by
  rw [emb4]
  refine congrArg₂ (fun a b : EReal => a * b) (block_code m c t q r) (congrArg kscale ((block_ratio m c t ⟨q.val / 32, by omega⟩ r).trans ?_))
  have e : ∀ h h', (⟨t.val * 4 + q.val / 32, h⟩ : Fin 60) = ⟨(t.val * 128 + q.val) / 32, h'⟩ := fun _ _ =>
    Fin.ext (by show t.val * 4 + q.val / 32 = (t.val * 128 + q.val) / 32; omega)
  rw [e _ (by have := lt15 t; omega)]
  rfl

theorem final2 (c : Dev nD) : (dats m 0 c).arrAt 2 cfg0.N = codesOf (m ((c : Thread nD τ).loc main_arg0)) (m ((c : Thread nD τ).loc main_arg1)) := by
  refine (dats m 0 c).arrAt_eq_of_covers 2 _ (by decide +kernel) fun t _ y => ?_
  blk_simp
  rw [after0_2, codes_point]
  obtain ⟨r, q, rfl⟩ := ix2_cases (a := 128) (b := 3584) y
  exact point2 m c t _ _
theorem ix3_cases {a b : ℕ} (y : (⟨3, ![1, a, b]⟩ : Shape).Idx) : ∃ (r : Fin a) (q : Fin b), y = ix3 (0 : Fin 1) r q := by
  refine ⟨y 1, y 2, funext fun k => ?_⟩
  match k with
  | ⟨0, _⟩ => exact Subsingleton.elim (α := Fin 1) _ _
  | ⟨1, _⟩ => rfl
  | ⟨2, _⟩ => rfl
theorem final3 (c : Dev nD) : (dats m 0 c).arrAt 3 cfg0.N = scalesOf (m ((c : Thread nD τ).loc main_arg0)) (m ((c : Thread nD τ).loc main_arg1)) := by
  refine (dats m 0 c).arrAt_eq_of_covers 3 _ (by decide +kernel) fun t _ y => ?_
  blk_simp
  rw [after0_3, scales_point]
  obtain ⟨r, q, rfl⟩ := ix3_cases (a := 4) (b := 3584) y
  exact point3 m c t _ _
theorem final4 (c : Dev nD) : (dats m 0 c).arrAt 4 cfg0.N = transposedOf (m ((c : Thread nD τ).loc main_arg0)) (m ((c : Thread nD τ).loc main_arg1)) := by
  refine (dats m 0 c).arrAt_eq_of_covers 4 _ (by decide +kernel) fun t _ y => ?_
  blk_simp
  rw [after0_4, transposed_point]
  obtain ⟨r, q, rfl⟩ := ix2_cases (a := 3584) (b := 128) y
  exact point4 m c t _ _
end Cert.NormIdeal.Value
end
-- ==== Proof.NormRef.lean ====
/- The normalising reference's results at an index: each payload of its one grid point, read element by element. -/
module
public import proofs.«01_k».proof.Proof.Gen.NormRefIdeal.Skeleton
public import Idealize.ShloMosaic.Lib.Pointwise
public import Idealize.ShloMosaic.Lib.Pipeline.Value
public import proofs.«01_k».proof.Proof.Elementwise
public import proofs.«01_k».proof.Proof.NormRows
@[expose] public section
set_option maxRecDepth 16384
noncomputable section
namespace Cert.NormRefIdeal.Value
open Cert.Mx Cert.NormRefIdeal Cert.NormRefIdeal.Gen Idealize.ShloMosaic Idealize.ShloMosaic.TcCoe Idealize.SL.Sem

theorem groups_at {α : Type} (x : S1920x3584.Idx → α) (g : Fin 60) (r : Fin 32) (c : Fin 3584) : shapeCast S60x32x3584 x shapeCasts_S1920x3584_S60x32x3584 (ix3 g r c) = x (ix2 ⟨g.val * 32 + r.val, by omega⟩ c) := by
  refine shapeCast_apply _ _ _ _ ?_
  rw [Shape.rowMajor_val_three, Shape.rowMajor_val_two]
  show (g.val * 32 + r.val) * 3584 + c.val = (g.val * 32 + r.val) * 3584 + c.val
  rfl
theorem rows_at {α : Type} (x : S60x32x3584.Idx → α) (r : Fin 1920) (c : Fin 3584) : shapeCast S1920x3584 x shapeCasts_S60x32x3584_S1920x3584 (ix2 r c) = x (ix3 ⟨r.val / 32, by omega⟩ ⟨r.val % 32, by omega⟩ c) := by
  refine shapeCast_apply _ _ _ _ ?_
  rw [Shape.rowMajor_val_three, Shape.rowMajor_val_two]
  show (r.val / 32 * 32 + r.val % 32) * 3584 + c.val = r.val * 3584 + c.val
  omega
theorem unit1_at {α : Type} (x : S60x3584.Idx → α) (g : Fin 60) (c : Fin 3584) : shapeCast S60x1x3584 x shapeCasts_S60x3584_S60x1x3584 (ix3 g 0 c) = x (ix2 g c) := by
  refine shapeCast_apply _ _ _ _ ?_
  rw [Shape.rowMajor_val_three, Shape.rowMajor_val_two]
  show g.val * 3584 + c.val = (g.val * 1 + 0) * 3584 + c.val
  omega
theorem unit0_at {α : Type} (x : S60x3584.Idx → α) (g : Fin 60) (c : Fin 3584) : shapeCast S1x60x3584 x shapeCasts_S60x3584_S1x60x3584 (ix3 0 g c) = x (ix2 g c) := by
  refine shapeCast_apply _ _ _ _ ?_
  rw [Shape.rowMajor_val_three, Shape.rowMajor_val_two]
  show g.val * 3584 + c.val = (0 * 60 + g.val) * 3584 + c.val
  omega

theorem red_max (x : FVec Ideal S60x32x3584 .f32) (g : Fin 60) (c : Fin 3584) :
    (multiReduction .maximumf [1] S60x3584 x 0xFF800000#32 reduces_S60x32x3584_S60x3584 (.inl rfl) rfl) (ix2 g c)
      = Finset.univ.fold max (Ideal.ofBits FTy.f32 0xFF800000#32) (fun k : Fin 32 => x (ix3 g k c)) := by
  pointwise
theorem red_min (x : FVec Ideal S254x60x3584 .f32) (g : Fin 60) (c : Fin 3584) :
    (multiReduction .minimumf [0] S60x3584 x 0x7F800000#32 reduces_S254x60x3584_S60x3584 (.inl rfl) rfl) (ix2 g c)
      = Finset.univ.fold min (Ideal.ofBits FTy.f32 0x7F800000#32) (fun k : Fin 254 => x (ix3 k g c)) := by
  pointwise
theorem spread1 {α : Type} (x : S60x1x3584.Idx → α) (g : Fin 60) (r : Fin 32) (c : Fin 3584) :
    broadcastTo S60x32x3584 x broadcasts_S60x1x3584_S60x32x3584 (ix3 g r c) = x (ix3 g 0 c) := by
  pointwise
theorem spread2 {α : Type} (x : S1x60x3584.Idx → α) (g : Fin 60) (r : Fin 254) (c : Fin 3584) :
    broadcastTo S254x60x3584 x broadcasts_S1x60x3584_S254x60x3584 (ix3 r g c) = x (ix3 0 g c) := by
  pointwise
theorem iota_at (g : Fin 60) (r : Fin 254) (c : Fin 3584) :
    iota .tc S254x60x3584 32 [0] iota_S254x60x3584_d0_w32 (ix3 r g c) = BitVec.ofNat 32 r.val := by
  pointwise

theorem fours_at {α : Type} (x : S60x3584.Idx → α) (t : Fin 15) (k : Fin 4) (c : Fin 3584) : shapeCast S15x4x3584 x shapeCasts_S60x3584_S15x4x3584 (ix3 t k c) = x (ix2 ⟨t.val * 4 + k.val, by omega⟩ c) := by
  refine shapeCast_apply _ _ _ _ ?_
  rw [Shape.rowMajor_val_three, Shape.rowMajor_val_two]
  show (t.val * 4 + k.val) * 3584 + c.val = (t.val * 4 + k.val) * 3584 + c.val
  rfl
theorem transposed_at {α : Type} (x : S1920x3584.Idx → α) (r : Fin 3584) (c : Fin 1920) :
    transpose S3584x1920 [1, 0] x transposes_S1920x3584_p1_0_S3584x1920 (ix2 r c) = x (ix2 c r) := by
  pointwise

/-- The vector of the normalised elements. -/
def normals (v : Vec Ideal S1920x3584 .bf16) (g : Vec Ideal S1x3584 .f32) : FVec Ideal S1920x3584 .f32 :=
  mulf (mulf (extf .f32 v bitsLt_bf16_f32) (broadcastTo S1920x3584 (rsqrt (addf (divf (shapeCast S1920x1 (multiReduction .add [1] S1920
    (mulf (extf .f32 v bitsLt_bf16_f32) (extf .f32 v bitsLt_bf16_f32)) 0x00000000#32 reduces_S1920x3584_S1920 (.inl rfl) rfl)
    shapeCasts_S1920_S1920x1) (broadcast S1920x1 (Scalar.ofBits (F := Ideal) .f32 0x45600000#32)))
    (broadcast S1920x1 (Scalar.ofBits (F := Ideal) .f32 0x358637BD#32)))) broadcasts_S1920x1_S1920x3584))
    (broadcastTo S1920x3584 g broadcasts_S1x3584_S1920x3584)
/-- The rows of an array. -/
def rows (X : Vec Ideal S1920x3584 .bf16) (r : Fin 1920) (j : Fin 3584) : EReal := X (ix2 r j)
def weights (G : Vec Ideal S1x3584 .f32) (j : Fin 3584) : EReal := G (ix2 0 j)

variable (v : Vec Ideal S1920x3584 .bf16) (w : Vec Ideal S1x3584 .f32)

theorem normals_at (r : Fin 1920) (c : Fin 3584) : normals v w (ix2 r c) = normalRow (rows v r) (weights w) c := by
  pointwise [normals]
  rfl
theorem pay5_eq : k0_pay5 (F := Ideal) v w = shapeCast S60x32x3584 (normals v w) shapeCasts_S1920x3584_S60x32x3584 := rfl
theorem pay5_at (g : Fin 60) (r : Fin 32) (c : Fin 3584) :
    k0_pay5 (F := Ideal) v w (ix3 g r c) = normalRow (rows v ⟨g.val * 32 + r.val, by omega⟩) (weights w) c := by
  rw [pay5_eq, groups_at, normals_at]

/-- The vector of all the groups' ratios. -/
def ratios : FVec Ideal S60x3584 .f32 :=
  mulf (multiReduction .maximumf [1] S60x3584 (absf (k0_pay5 (F := Ideal) v w)) 0xFF800000#32
    reduces_S60x32x3584_S60x3584 (.inl rfl) rfl) (broadcast S60x3584 (Scalar.ofBits .f32 0x3B124925#32))
/-- The vector of all the powers of two, one row each. -/
def powers : FVec Ideal S254x60x3584 .f32 :=
  exp2 (sitofp .f32 (subi (iota .tc S254x60x3584 32 [0] iota_S254x60x3584_d0_w32) (broadcast S254x60x3584 126#32)))

theorem ratios_at (g : Fin 60) (c : Fin 3584) : ratios v w (ix2 g c) = groupRatio448 (rows v) (weights w) g c := by
  have h : ∀ k : Fin 32, absf (k0_pay5 (F := Ideal) v w) (ix3 g k c)
      = FloatOps.absf (F := Ideal) (φ := .f32) (normalRow (rows v ⟨g.val * 32 + k.val, by omega⟩) (weights w) c) := by
    intro k
    rw [absf_at, pay5_at]
  unfold ratios groupRatio448 ratio448
  rw [mulf_at, red_max, broadcast_at, funext h]
  rfl
theorem powers_at (k : Fin 254) (g : Fin 60) (c : Fin 3584) : powers (ix3 k g c) = power k := by
  unfold powers power
  rw [exp2_at, sitofp_at, subi_at, iota_at, broadcast_at]

theorem pay6_eq : k0_pay6 (F := Ideal) v w =
    select (cmpf .olt (ratios v w) (broadcast S60x3584 (Scalar.ofBits .f32 0x00800000#32)))
      (broadcast S60x3584 (Scalar.ofBits .f32 0x3F800000#32))
      (multiReduction .minimumf [0] S60x3584
        (select (cmpf .ogt powers (broadcastTo S254x60x3584 (shapeCast S1x60x3584 (ratios v w) shapeCasts_S60x3584_S1x60x3584)
            broadcasts_S1x60x3584_S254x60x3584)) powers (broadcast S254x60x3584 (Scalar.ofBits .f32 0x7F800000#32)))
        0x7F800000#32 reduces_S254x60x3584_S60x3584 (.inl rfl) rfl) := rfl

theorem one_bits : (Scalar.ofBits (F := Ideal) .f32 0x3F800000#32 : EReal) = 1 := by
  change Ideal.ofBits .f32 0x3F800000#32 = 1
  simp [Ideal.ofBits, Ideal.ieee, -EReal.coe_mul]; norm_num

/-- The reference's scale of group `g` of column `c`. -/
theorem scale_at (g : Fin 60) (c : Fin 3584) :
    k0_pay6 (F := Ideal) v w (ix2 g c) = rscale (groupRatio448 (rows v) (weights w) g c) := by
  have h : ∀ k : Fin 254, select (cmpf .ogt powers (broadcastTo S254x60x3584 (shapeCast S1x60x3584 (ratios v w)
      shapeCasts_S60x3584_S1x60x3584) broadcasts_S1x60x3584_S254x60x3584)) powers
      (broadcast S254x60x3584 (Scalar.ofBits .f32 0x7F800000#32)) (ix3 k g c)
      = (if groupRatio448 (rows v) (weights w) g c < power k then power k else Ideal.ofBits .f32 0x7F800000#32) := by
    intro k
    rw [select_gt, spread2, unit0_at, ratios_at, powers_at, broadcast_at]
    rfl
  rw [pay6_eq, select_lt, red_min, funext h, ratios_at, broadcast_at, broadcast_at, one_bits]
  rfl

/-- The clipped quotient by the scale. -/
def code (x scale : EReal) : EReal :=
  min (Ideal.ofBits .f32 0x43E00000#32) (max (Ideal.ofBits .f32 0xC3E00000#32) (x * Ideal.div 1 scale))

/-- The codes as the reference forms them, by groups. -/
def grouped : FVec Ideal S60x32x3584 .fp8e4m3 := k0_pay1 (F := Ideal) (k0_pay7 v w) (k0_pay8 (F := Ideal))

theorem grouped_eq : grouped v w =
    truncf .fp8e4m3 (minimumf (broadcast S60x32x3584 (Scalar.ofBits .f32 0x43E00000#32))
      (maximumf (broadcast S60x32x3584 (Scalar.ofBits .f32 0xC3E00000#32)) (mulf (k0_pay5 v w)
        (broadcastTo S60x32x3584 (shapeCast S60x1x3584 (divf (broadcast S60x3584 (Scalar.ofBits .f32 0x3F800000#32)) (k0_pay6 v w))
          shapeCasts_S60x3584_S60x1x3584) broadcasts_S60x1x3584_S60x32x3584)))) bitsLt_fp8e4m3_f32 := rfl

theorem grouped_at (g : Fin 60) (r : Fin 32) (c : Fin 3584) : grouped v w (ix3 g r c)
    = code (normalRow (rows v ⟨g.val * 32 + r.val, by omega⟩) (weights w) c) (rscale (groupRatio448 (rows v) (weights w) g c)) := by
  rw [grouped_eq, truncf_at, minimumf_at, broadcast_at, maximumf_at, broadcast_at, mulf_at, pay5_at, spread1, unit1_at, divf_at,
    broadcast_at, scale_at, one_bits]
  rfl

theorem row_same (r : Fin 1920) (h) : (⟨r.val / 32 * 32 + r.val % 32, h⟩ : Fin 1920) = r := Fin.ext (Nat.div_add_mod' r.val 32)

/-- The reference's code of row `r` of column `c`. -/
theorem code_at (r : Fin 1920) (c : Fin 3584) : k0_pay2 (F := Ideal) (k0_pay7 v w) (k0_pay8 (F := Ideal)) (ix2 r c)
    = code (normalRow (rows v r) (weights w) c) (rscale (groupRatio448 (rows v) (weights w) ⟨r.val / 32, by omega⟩ c)) := by
  have h : k0_pay2 (F := Ideal) (k0_pay7 v w) (k0_pay8 (F := Ideal)) = shapeCast S1920x3584 (grouped v w) shapeCasts_S60x32x3584_S1920x3584 := rfl
  rw [h, rows_at, grouped_at, row_same]

/-- The reference's scales, four groups to a block. -/
theorem scales_at (t : Fin 15) (k : Fin 4) (c : Fin 3584) : k0_pay3 (F := Ideal) (k0_pay6 v w) (ix3 t k c)
    = rscale (groupRatio448 (rows v) (weights w) ⟨t.val * 4 + k.val, by omega⟩ c) := by
  have h : k0_pay3 (F := Ideal) (k0_pay6 v w) = shapeCast S15x4x3584 (k0_pay6 v w) shapeCasts_S60x3584_S15x4x3584 := rfl
  rw [h, fours_at, scale_at]

theorem pay4_eq : k0_pay4 (F := Ideal) (k0_pay6 v w) (k0_pay7 v w) (k0_pay8 (F := Ideal)) =
    transpose S3584x1920 [1, 0] (shapeCast S1920x3584 (mulf (extf .bf16 (grouped v w) bitsLt_fp8e4m3_bf16) (broadcastTo S60x32x3584
      (shapeCast S60x1x3584 (truncf .bf16 (k0_pay6 v w) bitsLt_bf16_f32) shapeCasts_S60x3584_S60x1x3584)
      broadcasts_S60x1x3584_S60x32x3584)) shapeCasts_S60x32x3584_S1920x3584) transposes_S1920x3584_p1_0_S3584x1920 := rfl

/-- The reference's decoded codes, transposed. -/
theorem decoded_at (r : Fin 3584) (c : Fin 1920) : k0_pay4 (F := Ideal) (k0_pay6 v w) (k0_pay7 v w) (k0_pay8 (F := Ideal)) (ix2 r c)
    = code (normalRow (rows v c) (weights w) r) (rscale (groupRatio448 (rows v) (weights w) ⟨c.val / 32, by omega⟩ r))
      * rscale (groupRatio448 (rows v) (weights w) ⟨c.val / 32, by omega⟩ r) := by
  rw [pay4_eq, transposed_at, rows_at, mulf_at, extf_at, grouped_at, spread1, unit1_at, truncf_at, scale_at, row_same]

end Cert.NormRefIdeal.Value
end
-- ==== Proof.NormRefRun.lean ====
/- The normalising reference's run: it has one grid point, whose blocks are the whole arrays, so that each result is the body's
   value of the arguments. -/
module
public import proofs.«01_k».proof.Proof.Gen.NormRefIdeal.Frame
public import Idealize.ShloMosaic.Lib.Pipeline.Value
@[expose] public section
noncomputable section
namespace Cert.NormRefIdeal.Value

open Cert.NormRefIdeal Cert.NormRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1920x3584.Idx) : ((cfg0.win 0).blk t).view.emb j = j := by
  obtain ⟨e0, e1⟩ := idx_zero0 t
  funext a; apply Fin.ext
  match a with
  | ⟨0, _⟩ => show win0_0.index t (0 : Fin 2) * 1920 + 1 * (j 0).val = (j 0).val; omega
  | ⟨1, _⟩ => show win0_0.index t (1 : Fin 2) * 3584 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x3584.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 3584 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1920x3584.Idx) : ((cfg0.win 2).blk t).view.emb j = j := by
  obtain ⟨e0, e1⟩ := idx_zero2 t
  funext a; apply Fin.ext
  match a with
  | ⟨0, _⟩ => show win0_2.index t (0 : Fin 2) * 1920 + 1 * (j 0).val = (j 0).val; omega
  | ⟨1, _⟩ => show win0_2.index t (1 : Fin 2) * 3584 + 1 * (j 1).val = (j 1).val; omega

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S15x4x3584.Idx) : ((cfg0.win 3).blk t).view.emb j = j := by
  obtain ⟨e0, e1, e2⟩ := idx_zero3 t
  funext a; apply Fin.ext
  match a with
  | ⟨0, _⟩ => show win0_3.index t (0 : Fin 3) * 15 + 1 * (j 0).val = (j 0).val; omega
  | ⟨1, _⟩ => show win0_3.index t (1 : Fin 3) * 4 + 1 * (j 1).val = (j 1).val; omega
  | ⟨2, _⟩ => show win0_3.index t (2 : Fin 3) * 3584 + 1 * (j 2).val = (j 2).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3584x1920.Idx) : ((cfg0.win 4).blk t).view.emb j = j := by
  obtain ⟨e0, e1⟩ := idx_zero4 t
  funext a; apply Fin.ext
  match a with
  | ⟨0, _⟩ => show win0_4.index t (0 : Fin 2) * 3584 + 1 * (j 0).val = (j 0).val; omega
  | ⟨1, _⟩ => show win0_4.index t (1 : Fin 2) * 1920 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S1920x3584 .bf16) (a1 : Vec F S1x3584 .f32) : Vec F S1920x3584 .fp8e4m3 :=
  k0_pay2 (k0_pay10 a0 a1) (k0_pay11 a0 a1)

/-- The one store through the whole rectangle leaves its payload. -/
theorem out2_eq (a0 : Vec F S1920x3584 .bf16) (a1 : Vec F S1x3584 .f32) : out0_2 (F := F) a0 a1 = G2 a0 a1 := by
  unfold out0_2
  rw [View.canon_unit_zero hz2]

/-- Cutting the point's block out of `X` and reading `X` through the block's view give the same. -/
theorem cut2_eq (t : Fin cfg0.N) (X : Vec F S1920x3584 .fp8e4m3) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S1920x3584.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S1920x3584 .bf16) (a1 : Vec F S1x3584 .f32) : Vec F S15x4x3584 .f32 :=
  k0_pay3 (k0_pay9 a0 a1)

/-- The one store through the whole rectangle leaves its payload. -/
theorem out3_eq (a0 : Vec F S1920x3584 .bf16) (a1 : Vec F S1x3584 .f32) : out0_3 (F := F) a0 a1 = G3 a0 a1 := by
  unfold out0_3
  rw [View.canon_unit_zero hz3]

/-- Cutting the point's block out of `X` and reading `X` through the block's view give the same. -/
theorem cut3_eq (t : Fin cfg0.N) (X : Vec F S15x4x3584 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S15x4x3584.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S1920x3584 .bf16) (a1 : Vec F S1x3584 .f32) : Vec F S3584x1920 .bf16 :=
  k0_pay4 (k0_pay9 a0 a1) (k0_pay10 a0 a1) (k0_pay11 a0 a1)

/-- The one store through the whole rectangle leaves its payload. -/
theorem out4_eq (a0 : Vec F S1920x3584 .bf16) (a1 : Vec F S1x3584 .f32) : out0_4 (F := F) a0 a1 = G4 a0 a1 := by
  unfold out0_4
  rw [View.canon_unit_zero hz4]

/-- Cutting the point's block out of `X` and reading `X` through the block's view give the same. -/
theorem cut4_eq (t : Fin cfg0.N) (X : Vec F S3584x1920 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S3584x1920.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.NormRefIdeal.Value

end
-- ==== Proof.NormEquation.lean ====
/- The normalising kernel's arrays equal its reference's, where `gamma` is finite. -/
module
public import proofs.«01_k».proof.Proof.NormFinal
public import proofs.«01_k».proof.Proof.NormRef
public import proofs.«01_k».proof.Proof.NormRefRun
public import proofs.«01_k».proof.Proof.Gen.Pre_gamma_finite
@[expose] public section
set_option maxRecDepth 16384
noncomputable section
namespace Cert.NormEquation
open Cert.Mx Idealize.ShloMosaic

/-- The precondition, read at an element of `gamma`. -/
theorem finite_of_pre (X : FVec Ideal Cert.Pre_gamma_finite.S1920x3584 .bf16) (G : FVec Ideal Cert.Pre_gamma_finite.S1x3584 .f32)
    (h : @Cert.Pre_gamma_finite.fn Cert.Pre_gamma_finite.Gen.facts Ideal _ X G = fun _ => 1#1) (i) :
    max (G i) (-(G i)) ≤ Ideal.ofBits .f32 0x7F7FFFFF#32 := by
  have hi := congrFun h i
  by_contra hc
  have e : @Cert.Pre_gamma_finite.fn Cert.Pre_gamma_finite.Gen.facts Ideal _ X G i
      = BitVec.ofBool (decide (max (G i) (-(G i)) ≤ Ideal.ofBits .f32 0x7F7FFFFF#32)) := rfl
  rw [e, decide_eq_false hc] at hi
  exact absurd hi (by decide)

open Cert.NormIdeal.Value (kcode codeOf scaleOf codesOf scalesOf transposedOf rows weights)
open Cert.NormRefIdeal.Value (code)
variable (X : Vec Ideal Cert.NormIdeal.S1920x3584 .bf16) (G : Vec Ideal Cert.NormIdeal.S1x3584 .f32)

/-- The reference's values of the loads of whole arrays are those of the arrays. -/
theorem scales_loaded : Cert.NormRefIdeal.Gen.k0_pay9 (F := Ideal) X G = Cert.NormRefIdeal.Gen.k0_pay6 X G := by
  unfold Cert.NormRefIdeal.Gen.k0_pay9
  rw [View.ld_unit_zero Cert.NormRefIdeal.Value.hz0, View.ld_unit_zero Cert.NormRefIdeal.Value.hz1]
theorem codes_loaded : Cert.NormRefIdeal.Gen.k0_pay10 (F := Ideal) X G = Cert.NormRefIdeal.Gen.k0_pay7 X G := by
  unfold Cert.NormRefIdeal.Gen.k0_pay10
  rw [View.ld_unit_zero Cert.NormRefIdeal.Value.hz0, View.ld_unit_zero Cert.NormRefIdeal.Value.hz1]
theorem bound_loaded : Cert.NormRefIdeal.Gen.k0_pay11 (F := Ideal) X G = Cert.NormRefIdeal.Gen.k0_pay8 := by
  unfold Cert.NormRefIdeal.Gen.k0_pay11
  rfl

variable (hG : ∀ i, max (G i) (-(G i)) ≤ Ideal.ofBits .f32 0x7F7FFFFF#32)
include hG

theorem scale_same (k : Fin 60) (c : Fin 3584) : scaleOf X G k c = rscale (groupRatio448 (rows X) (weights G) k c) := by
  obtain ⟨x, h0, h1, e⟩ := ratio_bound (rows X) (weights G) (fun _ => hG _) k c
  unfold scaleOf
  rw [e, kscale_eq x h0 h1]
theorem code_same (r : Fin 1920) (c : Fin 3584) : codeOf X G r c
    = code (normalRow (rows X r) (weights G) c) (rscale (groupRatio448 (rows X) (weights G) ⟨r.val / 32, by omega⟩ c)) := by
  obtain ⟨x, h0, h1, e⟩ := ratio_bound (rows X) (weights G) (fun _ => hG _) ⟨r.val / 32, by omega⟩ c
  unfold codeOf kcode code
  rw [e, kinv_eq x h0 h1]

theorem codes_equal : codesOf X G = Cert.NormRefIdeal.Value.G2 (F := Ideal) X G := by
  unfold Cert.NormRefIdeal.Value.G2
  rw [codes_loaded, bound_loaded]
  funext y
  obtain ⟨r, c, rfl⟩ := ix2_cases (a := 1920) (b := 3584) y
  exact (code_same X G hG r c).trans (Cert.NormRefIdeal.Value.code_at X G r c).symm
theorem scales_equal : scalesOf X G = Cert.NormRefIdeal.Value.G3 (F := Ideal) X G := by
  unfold Cert.NormRefIdeal.Value.G3
  rw [scales_loaded]
  funext y
  have hy : y = ix3 (y 0) (y 1) (y 2) := by
    funext k
    match k with
    | ⟨0, _⟩ => rfl
    | ⟨1, _⟩ => rfl
    | ⟨2, _⟩ => rfl
  rw [hy]
  exact (scale_same X G hG _ _).trans (Cert.NormRefIdeal.Value.scales_at X G (y 0) (y 1) (y 2)).symm
theorem transposed_equal : transposedOf X G = Cert.NormRefIdeal.Value.G4 (F := Ideal) X G := by
  unfold Cert.NormRefIdeal.Value.G4
  rw [scales_loaded, codes_loaded, bound_loaded]
  funext y
  obtain ⟨r, c, rfl⟩ := ix2_cases (a := 3584) (b := 1920) y
  exact (congrArg₂ (fun a b : EReal => a * b) (code_same X G hG c r) (scale_same X G hG _ r)).trans
    (Cert.NormRefIdeal.Value.decoded_at X G r c).symm
end Cert.NormEquation
end
-- ==== Proof.NormAlgebraic.lean ====
/- The normalising call's algebraic claim: both runs, and the three result arrays equal. -/
module
public import proofs.«01_k».proof.Proof.NormEquation
public import proofs.«01_k».proof.Proof.Gen.NormIdeal.Value
public import proofs.«01_k».proof.Defs
public import Idealize.ShloMosaic.Lib.Claim
@[expose] public section
set_option maxRecDepth 16384
noncomputable section
namespace Cert.NormEquation
open Cert.Mx Idealize.ShloMosaic Idealize.ShloMosaic.TcCoe Idealize.SL.Sem

theorem algebraic : Cert.algebraic_NormIdeal_NormRefIdeal_pre_gamma_finite (hNormIdeal := Cert.NormIdeal.Gen.facts)
    (hNormRefIdeal := Cert.NormRefIdeal.Gen.facts) (hPre_gamma_finite := Cert.Pre_gamma_finite.Gen.facts) := by
  intro m g m' g' hpre hagree
  have hG := fun c i => finite_of_pre _ _ (hpre c) i
  refine ⟨fun c => Cert.NormRefIdeal.Value.G2 (F := Ideal) (m ((c.tc : Thread Cert.NormIdeal.nD Cert.NormIdeal.τ).loc Cert.NormIdeal.main_arg0))
      (m ((c.tc : Thread Cert.NormIdeal.nD Cert.NormIdeal.τ).loc Cert.NormIdeal.main_arg1)),
    fun c => Cert.NormRefIdeal.Value.G3 (F := Ideal) (m ((c.tc : Thread Cert.NormIdeal.nD Cert.NormIdeal.τ).loc Cert.NormIdeal.main_arg0))
      (m ((c.tc : Thread Cert.NormIdeal.nD Cert.NormIdeal.τ).loc Cert.NormIdeal.main_arg1)),
    fun c => Cert.NormRefIdeal.Value.G4 (F := Ideal) (m ((c.tc : Thread Cert.NormIdeal.nD Cert.NormIdeal.τ).loc Cert.NormIdeal.main_arg0))
      (m ((c.tc : Thread Cert.NormIdeal.nD Cert.NormIdeal.τ).loc Cert.NormIdeal.main_arg1)), ?_, ?_⟩
  · refine (θ_run _ _ _).mono (fun r h c => ?_) (Cert.NormIdeal.Value.run_blocks m g)
    obtain ⟨h0, h1, h2, ha⟩ := h c
    exact ⟨h0.trans ((Cert.NormIdeal.Value.final2 m c).trans (codes_equal _ _ (hG c))),
      h1.trans ((Cert.NormIdeal.Value.final3 m c).trans (scales_equal _ _ (hG c))),
      h2.trans ((Cert.NormIdeal.Value.final4 m c).trans (transposed_equal _ _ (hG c))), ha⟩
  · refine (θ_run _ _ _).mono (fun r h c => ?_) (Cert.NormRefIdeal.Value.run m' g')
    obtain ⟨h0, h1, h2, ha⟩ := h c
    obtain ⟨e0, e1⟩ := hagree c
    rw [e0, e1] at h0 h1 h2
    exact ⟨h0, h1, h2, ha⟩
end Cert.NormEquation
end
-- ==== Proof.DgradValue.lean ====
/- The product slice's run: the accumulator after each grid point, and the array that the last point copies it to. -/
module
public import proofs.«01_k».proof.Proof.Gen.DgradIdeal.Frame
public import Idealize.ShloMosaic.Lib.Pointwise
public import Idealize.ShloMosaic.Lib.Pipeline.Value
@[expose] public section
set_option maxRecDepth 16384
noncomputable section
namespace Cert.DgradIdeal.Value
open Cert.DgradIdeal Cert.DgradIdeal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

variable (c : Dev nD) (i : grid0.Coords) (a1 : Memref sig .tc .vmem S1920x512 .bf16) (h1 : a1.IsWhole)
  (a2 : Memref sig .tc .vmem S3584x512 .bf16) (h2 : a2.IsWhole) (a4 : Memref sig .tc .vmem S1920x512 .bf16) (h4 : a4.IsWhole)
  (a5 : Memref sig .tc .vmem S3584x512 .bf16) (h5 : a5.IsWhole) (a6 : Memref sig .tc .vmem S1920x3584 .f32) (h6 : a6.IsWhole)
  (x0 : Vec F S1920x512 .bf16) (x1 : Vec F S3584x512 .bf16) (xs : Vec F S1920x3584 .f32) (fw : HbBuf0 (F := F) c hbM0_0)

/-- The first point leaves the blocks' product, added to zero. -/
theorem sout_A (hc0 : cond0_0 i) (hc1 : ¬cond0_1 i) :
    sout0_A_2 c i a1 h1 a2 h2 a4 h4 a5 h5 a6 h6 hc0 hc1 x0 x1 fw = k0_pay4 k0_pay3 x0 x1 := by
  unfold sout0_A_2
  rw [View.read_writes_eq_canon _ _ _ (scover0_A_2 c i a1 h1 a2 h2 a4 h4 a5 h5 a6 h6 hc0 hc1 x0 x1 fw)]
  unfold kernelRun0_A
  dsimp only
  sl_unfold_words
  rw [View.canon_cons_unit_zero (S := S1920x3584) hz]
  simp only [View.readCov_unit_zero (S := S1920x3584) _ hz, View.readCov_unit_zero (S := S1920x512) _ hz, View.readCov_unit_zero (S := S3584x512) _ hz]
  simp only [View.readAt_eq_ld, h1.read_unread, h2.read_unread, View.ld_unit_zero (S := S1920x512) hz, View.ld_unit_zero (S := S3584x512) hz]
  unfold k0_pay1 k0_pay2
  simp only [shapeCast_self]

/-- A later point adds the blocks' product to the accumulator. -/
theorem sout_B (hc0 : ¬cond0_0 i) (hc1 : ¬cond0_1 i) :
    sout0_B_2 c i a1 h1 a2 h2 a4 h4 a5 h5 a6 h6 hc0 hc1 x0 x1 xs fw = k0_pay4 xs x0 x1 := by
  unfold sout0_B_2
  rw [View.read_writes_eq_canon _ _ _ (scover0_B_2 c i a1 h1 a2 h2 a4 h4 a5 h5 a6 h6 hc0 hc1 x0 x1 xs fw)]
  unfold kernelRun0_B
  dsimp only
  sl_unfold_words
  rw [View.canon_unit_zero (S := S1920x3584) hz]
  simp only [View.readCov_unit_zero (S := S1920x512) _ hz, View.readCov_unit_zero (S := S3584x512) _ hz]
  simp only [View.readAt_eq_ld, h1.read_unread, h2.read_unread, h6.read_unread, View.ld_unit_zero (S := S1920x512) hz, View.ld_unit_zero (S := S3584x512) hz, View.ld_unit_zero (S := S1920x3584) hz]
  unfold k0_pay1 k0_pay2
  simp only [shapeCast_self]

/-- The last point copies the accumulator, with its own blocks' product added, to the result array. -/
theorem hbw_C (hc0 : ¬cond0_0 i) (hc1 : cond0_1 i) :
    hbw0_C_0 c i a1 h1 a2 h2 a4 h4 a5 h5 a6 h6 hc0 hc1 x0 x1 xs fw = k0_pay4 xs x0 x1 := by
  unfold hbw0_C_0
  unfold kernelRun0_C
  dsimp only
  sl_unfold_words
  rw [View.write_whole_univ]
  change a6.view.read (Elt F) (a6.view.writes (Elt F) _ _) = _
  rw [View.read_writes_eq_canon _ _ _ (View.cover_of_tiledL _ S1920x3584.size (by sl_kernel_rfl))]
  rw [View.canon_unit_zero (S := S1920x3584) hz]
  simp only [View.readCov_unit_zero (S := S1920x512) _ hz, View.readCov_unit_zero (S := S3584x512) _ hz]
  simp only [View.readAt_eq_ld, h1.read_unread, h2.read_unread, h6.read_unread, View.ld_unit_zero (S := S1920x512) hz, View.ld_unit_zero (S := S3584x512) hz, View.ld_unit_zero (S := S1920x3584) hz]
  unfold k0_pay1 k0_pay2
  simp only [shapeCast_self]

/-- The accumulator after point `n`. -/
def chain (c : Dev nD) : (n : ℕ) → n < cfg0.N → Vec F S1920x3584 .f32
  | 0, hn => k0_pay4 k0_pay3 (iblk m c 0 ⟨0, hn⟩) (iblk m c 1 ⟨0, hn⟩)
  | n + 1, hn => k0_pay4 (chain c n (Nat.lt_of_succ_lt hn)) (iblk m c 0 ⟨n + 1, hn⟩) (iblk m c 1 ⟨n + 1, hn⟩)

theorem outs_first (c : Dev nD) (t : Fin cfg0.N) (h0 : t.val % 37 = 0) (h1 : ¬t.val % 37 = 36) :
    (outsAt0 m c t.val t.isLt).1 = k0_pay4 k0_pay3 (iblk m c 0 t) (iblk m c 1 t) := by
  rw [outsAt0_A m c t h0 h1]
  dsimp only
  rw [sout_A]
theorem outs_next (c : Dev nD) (t : Fin cfg0.N) (h0 : ¬t.val % 37 = 0) (h1 : ¬t.val % 37 = 36) :
    (outsAt0 m c t.val t.isLt).1
      = k0_pay4 (outsAt0 m c (t.val - 1) (Nat.lt_of_le_of_lt (Nat.sub_le _ _) t.isLt)).1 (iblk m c 0 t) (iblk m c 1 t) := by
  rw [outsAt0_B m c t h0 h1]
  dsimp only
  rw [sout_B]
theorem outs_copied (c : Dev nD) (t : Fin cfg0.N) (h0 : ¬t.val % 37 = 0) (h1 : t.val % 37 = 36) :
    (outsAt0 m c t.val t.isLt).2
      = k0_pay4 (outsAt0 m c (t.val - 1) (Nat.lt_of_le_of_lt (Nat.sub_le _ _) t.isLt)).1 (iblk m c 0 t) (iblk m c 1 t) := by
  rw [outsAt0_C m c t h0 h1]
  dsimp only
  rw [hbw_C]
theorem outs_chain (c : Dev nD) : ∀ (n : ℕ) (hn : n < cfg0.N), n < 36 → (outsAt0 m c n hn).1 = chain m c n hn
  | 0, hn, _ => outs_first m c ⟨0, hn⟩ (Nat.zero_mod _) (by simp)
  | n + 1, hn, h => by
      refine (outs_next m c ⟨n + 1, hn⟩ (by dsimp only; omega) (by dsimp only; omega)).trans ?_
      have e := outs_chain c n (Nat.lt_of_succ_lt hn) (by omega)
      simp only [Nat.add_sub_cancel, chain, e]
theorem h36 : 36 < cfg0.N := lt_of_lt_of_eq (by decide : 36 < 37) (show (37 : ℕ) = cfg0.N from N_0.symm)
theorem outs_last (c : Dev nD) : (outsAt0 m c 36 h36).2 = chain m c 36 h36 := by
  refine (outs_copied m c ⟨36, h36⟩ (by simp) (by simp)).trans ?_
  have e := outs_chain m c 35 (Nat.lt_of_succ_lt h36) (by decide)
  simp only [Nat.reduceSub, chain, e]

/-- The run: the result array holds the accumulator after the last point, and the arguments are unchanged. -/
theorem run : θ_run defs (onTc (τ := τ) (main (F := F))) ⟨m, fun _ => 0, ρ⟩ (fun r => ∀ c : Dev nD,
    r.2.mem ((c : Thread nD τ).loc main_v0) = chain m c 36 h36
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(Pipeline.FramePostRG.written h c (by decide)).trans ((hbG0_0 m c).trans (outs_last m c)),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c)))⟩) (run_main m ρ)
end Cert.DgradIdeal.Value
end
-- ==== Proof.DgradEquation.lean ====
/- The product slice over the extended reals: the last point's accumulator is the reference's product, element by element. -/
module
public import proofs.«01_k».proof.Proof.DgradValue
public import proofs.«01_k».proof.Proof.Gen.DgradRefIdeal.Run
public import Idealize.ShloMosaic.Lib.Pipeline.ValueKit
@[expose] public section
set_option maxRecDepth 16384
noncomputable section
namespace Cert.DgradEquation
open Cert Idealize.ShloMosaic Idealize.ShloMosaic.TcCoe Idealize.SL.Sem
section Kernel
open Cert.DgradIdeal Cert.DgradIdeal.Gen Cert.DgradIdeal.Value
variable (m : (ℓ : Loc nD τ sig) → Buf (Elt Ideal) ℓ)
theorem idx : ∀ t : Fin cfg0.N, win0_0.index t = ![0, t.val] ∧ win0_1.index t = ![0, t.val] :=
  (by decide +kernel : ∀ t : Fin grid0.N, _)
theorem lt37 (t : Fin cfg0.N) : t.val < 37 := t.isLt
theorem x_block (c : Dev nD) (t : Fin cfg0.N) (r : Fin 1920) (k : Fin 512) : iblk m c 0 t (ix2 r k)
    = m ((c : Thread nD τ).loc main_arg0) (ix2 r ⟨t.val * 512 + k.val, by have := lt37 t; omega⟩) := by
  blk_point [iblk, V, idx t]
theorem w_block (c : Dev nD) (t : Fin cfg0.N) (r : Fin 3584) (k : Fin 512) : iblk m c 1 t (ix2 r k)
    = m ((c : Thread nD τ).loc main_arg1) (ix2 r ⟨t.val * 512 + k.val, by have := lt37 t; omega⟩) := by
  blk_point [iblk, V, idx t]
theorem step_at (a : Vec Ideal S1920x3584 .f32) (x : Vec Ideal S1920x512 .bf16) (w : Vec Ideal S3584x512 .bf16) (r : Fin 1920) (q : Fin 3584) :
    k0_pay4 (F := Ideal) a x w (ix2 r q) = a (ix2 r q) + (0 + ∑ k : Fin 512, x (ix2 r k) * w (ix2 q k)) := by
  pointwise [k0_pay4]
theorem zero_at (r : Fin 1920) (q : Fin 3584) : k0_pay3 (F := Ideal) (ix2 r q) = (0 : EReal) := by
  pointwise [k0_pay3]
/-- One point's contribution to an element, over a row of the left operand and a row of the right. -/
def part (f g : Fin 18944 → EReal) (t : Fin 37) : EReal := ∑ k : Fin 512, f ⟨t.val * 512 + k.val, by omega⟩ * g ⟨t.val * 512 + k.val, by omega⟩
def xrow (X : Vec Ideal S1920x18944 .bf16) (r : Fin 1920) (k : Fin 18944) : EReal := X (ix2 r k)
def wrow (W : Vec Ideal S3584x18944 .bf16) (q : Fin 3584) (k : Fin 18944) : EReal := W (ix2 q k)
theorem chain_at (c : Dev nD) (r : Fin 1920) (q : Fin 3584) : ∀ (n : ℕ) (hn : n < cfg0.N) (h : n < 37), chain m c n hn (ix2 r q)
    = ∑ t : Fin (n + 1), part (xrow (m ((c : Thread nD τ).loc main_arg0)) r) (wrow (m ((c : Thread nD τ).loc main_arg1)) q) ⟨t.val, by omega⟩
  | 0, hn, _ => by
      unfold chain
      rw [step_at, zero_at, zero_add, zero_add, Fin.sum_univ_one]
      exact Finset.sum_congr rfl fun k _ => by rw [x_block, w_block]; rfl
  | n + 1, hn, h => by
      unfold chain
      rw [step_at, chain_at c r q n _ (by omega), zero_add]
      refine Eq.trans ?_ (Fin.sum_univ_castSucc _).symm
      refine congrArg₂ (α := EReal) (β := EReal) (γ := EReal) (· + ·) rfl (Finset.sum_congr rfl fun k _ => ?_)
      rw [x_block, w_block]
      rfl
end Kernel
theorem sum_parts (f g : Fin 18944 → EReal) : ∑ t : Fin 37, part f g t = ∑ k : Fin 18944, f k * g k := by
  rw [← Equiv.sum_comp (finProdFinEquiv : Fin 37 × Fin 512 ≃ Fin 18944), Fintype.sum_prod_type]
  refine Finset.sum_congr rfl fun t _ => Finset.sum_congr rfl fun k _ => ?_
  have e : (finProdFinEquiv (t, k) : Fin 18944) = ⟨t.val * 512 + k.val, by omega⟩ := Fin.ext (by simp [finProdFinEquiv]; omega)
  rw [e]
theorem ref_at (X : Vec Ideal DgradRefIdeal.S1920x18944 .bf16) (W : Vec Ideal DgradRefIdeal.S3584x18944 .bf16) (r : Fin 1920) (q : Fin 3584) :
    (Host.dotGeneral (φ₁ := .bf16) (φ₂ := .bf16) DgradRefIdeal.dot_S1920x18944_S3584x18944_S1920x3584_1_1_0_0_n_n none X W : FVec Ideal DgradRefIdeal.S1920x3584 .f32) (ix2 r q)
      = ∑ k : Fin 18944, xrow X r k * wrow W q k := by
  pointwise []
  rfl
theorem product_equal (m : (ℓ : Loc DgradIdeal.nD DgradIdeal.τ DgradIdeal.sig) → Buf (Elt Ideal) ℓ) (c : Dev DgradIdeal.nD) :
    DgradIdeal.Value.chain m c 36 DgradIdeal.Value.h36
      = (Host.dotGeneral (φ₁ := .bf16) (φ₂ := .bf16) DgradRefIdeal.dot_S1920x18944_S3584x18944_S1920x3584_1_1_0_0_n_n none
          (m ((c : Thread DgradIdeal.nD DgradIdeal.τ).loc DgradIdeal.main_arg0)) (m ((c : Thread DgradIdeal.nD DgradIdeal.τ).loc DgradIdeal.main_arg1))
          : FVec Ideal DgradRefIdeal.S1920x3584 .f32) := by
  funext y
  obtain ⟨r, q, rfl⟩ : ∃ (r : Fin 1920) (q : Fin 3584), y = ix2 r q := ⟨y 0, y 1, by funext a; fin_cases a <;> rfl⟩
  rw [chain_at m c r q 36 _ (by decide), ref_at]
  exact sum_parts _ _
end Cert.DgradEquation
end
-- ==== Proof.DgradAlgebraic.lean ====
/- The product slice's algebraic claim, and the reference's frame: a host program that declares no semaphore. -/
module
public import proofs.«01_k».proof.Defs
public import proofs.«01_k».proof.Proof.DgradEquation
public import proofs.«01_k».proof.Proof.Gen.DgradIdeal
public import proofs.«01_k».proof.Proof.Gen.DgradRefIdeal
public import Idealize.ShloMosaic.Lib.Claim
@[expose] public section
set_option maxRecDepth 16384
noncomputable section
namespace Cert.DgradEquation
open Idealize.ShloMosaic Idealize.ShloMosaic.TcCoe Idealize.SL.Sem

theorem ref_frame : Cert.quiescent_DgradRefIdeal (hDgradRefIdeal := Cert.DgradRefIdeal.Gen.facts) := fun m ρ _ =>
  (θ_run _ _ _).mono (fun r h => ⟨fun c => (h c).2, funext fun s => nomatch s⟩) (Cert.DgradRefIdeal.Value.run m ρ)

theorem algebraic : Cert.algebraic_DgradIdeal_DgradRefIdeal (hDgradIdeal := Cert.DgradIdeal.Gen.facts)
    (hDgradRefIdeal := Cert.DgradRefIdeal.Gen.facts) := by
  intro m g m' g' _ hagree
  refine ⟨fun c => Cert.DgradIdeal.Value.chain m c 36 Cert.DgradIdeal.Value.h36, Cert.DgradIdeal.Value.run m g, ?_⟩
  refine (θ_run _ _ _).mono (fun r h c => ?_) (Cert.DgradRefIdeal.Value.run m' g')
  obtain ⟨h0, ha⟩ := h c
  obtain ⟨e0, e1⟩ := hagree c
  rw [e0, e1] at h0
  exact ⟨h0.trans (product_equal m c).symm, ha⟩
end Cert.DgradEquation
end
-- ==== Proof.lean ====
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Gen.NormIdeal.Value
public import proofs.«01_k».proof.Proof.Gen.Pre_gamma_finite
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradRefIdeal.Skeleton
public import proofs.«01_k».proof.Proof.Gen.WgradRefIdeal.Launch
public import proofs.«01_k».proof.Proof.Gen.WgradRefIdeal.Points
public import proofs.«01_k».proof.Proof.Gen.WgradRefIdeal.Frame
public import proofs.«01_k».proof.Proof.Gen.WgradIdeal.Value
public import proofs.«01_k».proof.Proof.Gen.WgradRefIdeal.Value
public import proofs.«01_k».proof.Proof.Gen.Pre_dy_finite
public import proofs.«01_k».proof.Proof.Algebraic
public import proofs.«01_k».proof.Proof.NormAlgebraic
public import proofs.«01_k».proof.Proof.Gen.Dgrad.Frame
public import proofs.«01_k».proof.Proof.Gen.DgradIdeal.Frame
public import proofs.«01_k».proof.Proof.DgradAlgebraic
public import Idealize.ShloMosaic.Adequacy
public import Idealize.ShloMosaic.Init

@[expose] public section

noncomputable section

namespace Cert.Proof

open Idealize.ShloMosaic Idealize.SL.Sem Cert.Wgrad

theorem claim : Cert.Claim := ⟨Cert.Norm.Gen.facts, Cert.NormIdeal.Gen.facts, Cert.NormRefIdeal.Gen.facts,
  Cert.Wgrad.Gen.facts, Cert.WgradIdeal.Gen.facts, Cert.WgradRefIdeal.Gen.facts,
  Cert.Dgrad.Gen.facts, Cert.DgradIdeal.Gen.facts, Cert.DgradRefIdeal.Gen.facts,
  Cert.Pre_gamma_finite.Gen.facts, Cert.Pre_dy_finite.Gen.facts,
  fun m ρ _ => Cert.Norm.Gen.frame m ρ,
  fun m ρ _ => Cert.NormIdeal.Gen.frame m ρ,
  fun m ρ _ => Cert.NormIdeal.Gen.frame m ρ,
  fun m ρ _ => Cert.NormRefIdeal.Gen.frame m ρ,
  fun m ρ _ => Cert.NormRefIdeal.Gen.frame m ρ,
  fun m ρ _ => Cert.Wgrad.Gen.frame m ρ,
  fun m ρ _ => Cert.WgradIdeal.Gen.frame m ρ,
  fun m ρ _ => Cert.WgradIdeal.Gen.frame m ρ,
  fun m ρ _ => Cert.WgradRefIdeal.Gen.frame m ρ,
  fun m ρ _ => Cert.WgradRefIdeal.Gen.frame m ρ,
  fun m ρ _ => Cert.Dgrad.Gen.frame m ρ,
  fun m ρ _ => Cert.DgradIdeal.Gen.frame m ρ,
  Cert.DgradEquation.ref_frame,
  IdealRules.named_const.statement Cert.NormIdeal.κ "inv_d_model" .f32 0x39924925#32 _ rfl,
  Cert.NormEquation.algebraic,
  IdealRules.named_const.statement Cert.WgradIdeal.κ "inv_d_model" .f32 0x39924925#32 _ rfl,
  Cert.Equation.algebraic,
  trivial,
  Cert.DgradEquation.algebraic⟩

end Cert.Proof

end
